-- ==== Defs.lean ====
def Pre_Kernel [hPre_cache_fits : Cert.Pre_cache_fits.Facts] (m : (ℓ : Loc Cert.Kernel.nD Cert.Kernel.τ Cert.Kernel.sig) → Buf (Elt Bits) ℓ) : Prop :=
  ∀ c : Dev Cert.Kernel.nD,
    (Cert.Pre_cache_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_cache_fits : Cert.Pre_cache_fits.Facts] (m : (ℓ : Loc Cert.KernelIdeal.nD Cert.KernelIdeal.τ Cert.KernelIdeal.sig) → Buf (Elt Ideal) ℓ) : Prop :=
  ∀ c : Dev Cert.KernelIdeal.nD,
    (Cert.Pre_cache_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_fits_and_finite [hPre_fits_and_finite : Cert.Pre_fits_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_fits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_fits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_fits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_and_finite [hPre_fits_and_finite : Cert.Pre_fits_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_fits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_fits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Reference (m : (ℓ : Loc Cert.Reference.nD Cert.Reference.τ Cert.Reference.sig) → Buf (Elt Bits) ℓ) : Prop :=
  True

def quiescent_Kernel [hKernel : Cert.Kernel.Facts] [hPre_cache_fits : Cert.Pre_cache_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_cache_fits : Cert.Pre_cache_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_fits_and_finite [hKernelIdeal : Cert.KernelIdeal.Facts] [hPre_fits_and_finite : Cert.Pre_fits_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_fits_and_finite [hReferenceIdeal : Cert.ReferenceIdeal.Facts] [hPre_fits_and_finite : Cert.Pre_fits_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def preserves_Kernel_KernelIdeal : Prop :=
  IdealRules.named_const.Statement Cert.KernelIdeal.κ "log2e_scale" .f32 0x3E0293EE#32 (((Real.sqrt 128)⁻¹ * (Real.log 2)⁻¹ : ℝ) : EReal)
  ∧ IdealRules.named_const.Statement Cert.KernelIdeal.κ "neg_inf" .f32 0xF149F2CA#32 ⊥

def preserves_Reference_ReferenceIdeal : Prop :=
  True

def algebraic_KernelIdeal_ReferenceIdeal_pre_fits_and_finite [hKernelIdeal : Cert.KernelIdeal.Facts] [hReferenceIdeal : Cert.ReferenceIdeal.Facts] [hPre_fits_and_finite : Cert.Pre_fits_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v0_0) = v1 c
          ∧ r.2.mem ((c.tc : Thread Cert.ReferenceIdeal.nD Cert.ReferenceIdeal.τ).loc Cert.ReferenceIdeal.main_v0_1) = v2 c
          ∧ r.2.mem ((c.tc : Thread Cert.ReferenceIdeal.nD Cert.ReferenceIdeal.τ).loc Cert.ReferenceIdeal.main_v0_2) = v3 c
          ∧ r.2.mem ((c.tc : Thread Cert.ReferenceIdeal.nD Cert.ReferenceIdeal.τ).loc Cert.ReferenceIdeal.main_v0_3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hReference : Cert.Reference.Facts) (hPre_cache_fits : Cert.Pre_cache_fits.Facts) (hPre_fits_and_finite : Cert.Pre_fits_and_finite.Facts),
    quiescent_Kernel (hKernel := hKernel) (hPre_cache_fits := hPre_cache_fits)
    ∧ quiescent_KernelIdeal (hKernelIdeal := hKernelIdeal) (hPre_cache_fits := hPre_cache_fits)
    ∧ quiescent_KernelIdeal_pre_fits_and_finite (hKernelIdeal := hKernelIdeal) (hPre_fits_and_finite := hPre_fits_and_finite)
    ∧ quiescent_ReferenceIdeal (hReferenceIdeal := hReferenceIdeal)
    ∧ quiescent_ReferenceIdeal_pre_fits_and_finite (hReferenceIdeal := hReferenceIdeal) (hPre_fits_and_finite := hPre_fits_and_finite)
    ∧ quiescent_Reference (hReference := hReference)
    ∧ preserves_Kernel_KernelIdeal
    ∧ preserves_Reference_ReferenceIdeal
    ∧ algebraic_KernelIdeal_ReferenceIdeal_pre_fits_and_finite (hKernelIdeal := hKernelIdeal) (hReferenceIdeal := hReferenceIdeal) (hPre_fits_and_finite := hPre_fits_and_finite)
-- ==== Pre_cache_fits.lean ====
abbrev S40x56x28x128 : Shape := ⟨4, ![40, 56, 28, 128]⟩
abbrev S40x4x56x128 : Shape := ⟨4, ![40, 4, 56, 128]⟩
abbrev S40x4x3840x128 : Shape := ⟨4, ![40, 4, 3840, 128]⟩
abbrev S40x4x60 : Shape := ⟨3, ![40, 4, 60]⟩
abbrev S40 : Shape := ⟨1, ![40]⟩
abbrev S56x56 : Shape := ⟨2, ![56, 56]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S40x56x28x128 .bf16) (main_arg1 : FVec F S40x4x56x128 .bf16) (main_arg2 : FVec F S40x4x56x128 .bf16) (main_arg3 : FVec F S40x4x3840x128 .fp8e4m3) (main_arg4 : FVec F S40x4x60 .f32) (main_arg5 : FVec F S40x4x3840x128 .fp8e4m3) (main_arg6 : FVec F S40x4x60 .f32) (main_arg7 : IVec S40 32) (main_arg8 : IVec S56x56 1) : IVec S40 1 :=
  let main_c : IVec S_ 32 := constantI S_ 32 3840#32
  let main_v0 : IVec S40 32 := broadcastInDim S40 ![] bcast_S_S40 main_c
  let main_v1 : IVec S40 1 := cmpi .sle main_arg7 main_v0
  main_v1
-- ==== Pre_fits_and_finite.lean ====
abbrev S40x56x28x128 : Shape := ⟨4, ![40, 56, 28, 128]⟩
abbrev S40x4x56x128 : Shape := ⟨4, ![40, 4, 56, 128]⟩
abbrev S40x4x3840x128 : Shape := ⟨4, ![40, 4, 3840, 128]⟩
abbrev S40x4x60 : Shape := ⟨3, ![40, 4, 60]⟩
abbrev S40 : Shape := ⟨1, ![40]⟩
abbrev S56x56 : Shape := ⟨2, ![56, 56]⟩
abbrev S_ : Shape := ⟨0, ![]⟩

class Facts : Prop where
  bcast_S_S40 : S_.BroadcastsInDim S40 (![] : Fin 0 → Fin S40.rank)
  bitsLt_bf16_f32 : FTy.bits .bf16 < FTy.bits .f32
  bcast_S_S40x4x56x128 : S_.BroadcastsInDim S40x4x56x128 (![] : Fin 0 → Fin S40x4x56x128.rank)

variable [Facts]

def fn {F : FTy → Type} [FloatOps F] (main_arg0 : FVec F S40x56x28x128 .bf16) (main_arg1 : FVec F S40x4x56x128 .bf16) (main_arg2 : FVec F S40x4x56x128 .bf16) (main_arg3 : FVec F S40x4x3840x128 .fp8e4m3) (main_arg4 : FVec F S40x4x60 .f32) (main_arg5 : FVec F S40x4x3840x128 .fp8e4m3) (main_arg6 : FVec F S40x4x60 .f32) (main_arg7 : IVec S40 32) (main_arg8 : IVec S56x56 1) : IVec S40 1 × IVec S40x4x56x128 1 × IVec S40x4x56x128 1 :=
  let main_c : IVec S_ 32 := constantI S_ 32 3840#32
  let main_v0 : IVec S40 32 := broadcastInDim S40 ![] bcast_S_S40 main_c
  let main_v1 : IVec S40 1 := cmpi .sle main_arg7 main_v0
  let main_v2 : FVec F S40x4x56x128 .f32 := (extf .f32 · bitsLt_bf16_f32) main_arg1
  let main_v3 : FVec F S40x4x56x128 .f32 := Host.absf main_v2
  let main_cst : FVec F S_ .f32 := constant S_ .f32 0x7F7F0000#32
  let main_v4 : FVec F S40x4x56x128 .f32 := broadcastInDim S40x4x56x128 ![] bcast_S_S40x4x56x128 main_cst
  let main_v5 : IVec S40x4x56x128 1 := cmpf .ole main_v3 main_v4
  let main_v6 : FVec F S40x4x56x128 .f32 := (extf .f32 · bitsLt_bf16_f32) main_arg2
  let main_v7 : FVec F S40x4x56x128 .f32 := Host.absf main_v6
  let main_cst_0 : FVec F S_ .f32 := constant S_ .f32 0x7F7F0000#32
  let main_v8 : FVec F S40x4x56x128 .f32 := broadcastInDim S40x4x56x128 ![] bcast_S_S40x4x56x128 main_cst_0
  let main_v9 : IVec S40x4x56x128 1 := cmpf .ole main_v7 main_v8
  (main_v1, main_v5, main_v9)
-- ==== Kernel.lean ====
abbrev S40x56x28x128 : Shape := ⟨4, ![40, 56, 28, 128]⟩
abbrev S40x4x56x128 : Shape := ⟨4, ![40, 4, 56, 128]⟩
abbrev S40x4x3840x128 : Shape := ⟨4, ![40, 4, 3840, 128]⟩
abbrev S40x4x60 : Shape := ⟨3, ![40, 4, 60]⟩
abbrev S40 : Shape := ⟨1, ![40]⟩
abbrev S56x56 : Shape := ⟨2, ![56, 56]⟩
abbrev S40x56x4x7x128 : Shape := ⟨5, ![40, 56, 4, 7, 128]⟩
abbrev S40x4x7x56x128 : Shape := ⟨5, ![40, 4, 7, 56, 128]⟩
abbrev S40x4x392x128 : Shape := ⟨4, ![40, 4, 392, 128]⟩
abbrev S40x4x60x64 : Shape := ⟨4, ![40, 4, 60, 64]⟩
abbrev S40x4x3840 : Shape := ⟨3, ![40, 4, 3840]⟩
abbrev S40x4x15x1x256 : Shape := ⟨5, ![40, 4, 15, 1, 256]⟩
abbrev S1x56x1x56 : Shape := ⟨4, ![1, 56, 1, 56]⟩
abbrev S7x56x1x56 : Shape := ⟨4, ![7, 56, 1, 56]⟩
abbrev S392x56 : Shape := ⟨2, ![392, 56]⟩
abbrev S40x4x1x56 : Shape := ⟨4, ![40, 4, 1, 56]⟩
abbrev S1x1x392x128 : Shape := ⟨4, ![1, 1, 392, 128]⟩
abbrev S1x1x56x128 : Shape := ⟨4, ![1, 1, 56, 128]⟩
abbrev S1x1x3840x128 : Shape := ⟨4, ![1, 1, 3840, 128]⟩
abbrev S1x1x15x1x256 : Shape := ⟨5, ![1, 1, 15, 1, 256]⟩
abbrev S1x1x1x56 : Shape := ⟨4, ![1, 1, 1, 56]⟩
abbrev S1 : Shape := ⟨1, ![1]⟩
abbrev S392x128 : Shape := ⟨2, ![392, 128]⟩
abbrev S56x128 : Shape := ⟨2, ![56, 128]⟩
abbrev S56 : Shape := ⟨1, ![56]⟩
abbrev S56x1 : Shape := ⟨2, ![56, 1]⟩
abbrev S56x256 : Shape := ⟨2, ![56, 256]⟩
abbrev S128x56 : Shape := ⟨2, ![128, 56]⟩
abbrev S1x56 : Shape := ⟨2, ![1, 56]⟩
abbrev S392 : Shape := ⟨1, ![392]⟩
abbrev S392x1 : Shape := ⟨2, ![392, 1]⟩
abbrev S1x1x256x128 : Shape := ⟨4, ![1, 1, 256, 128]⟩
abbrev S256x128 : Shape := ⟨2, ![256, 128]⟩
abbrev S392x256 : Shape := ⟨2, ![392, 256]⟩
abbrev S1x1x1x1x256 : Shape := ⟨5, ![1, 1, 1, 1, 256]⟩
abbrev S1x256 : Shape := ⟨2, ![1, 256]⟩
abbrev S40x4x56 : Shape := ⟨3, ![40, 4, 56]⟩

abbrev nBuf : Space → Nat
  | .hbm => 31
  | .vmem => 25
  | .smem => 1
  | _ => 0

abbrev bufTy : (tb : Table) → Fin (tcTables nBuf tb) → BufTy
  | .hbm, ⟨0, _⟩ => ⟨S40x56x28x128, .bf16⟩
  | .hbm, ⟨1, _⟩ => ⟨S40x4x56x128, .bf16⟩
  | .hbm, ⟨2, _⟩ => ⟨S40x4x56x128, .bf16⟩
  | .hbm, ⟨3, _⟩ => ⟨S40x4x3840x128, .fp8e4m3⟩
  | .hbm, ⟨4, _⟩ => ⟨S40x4x60, .f32⟩
  | .hbm, ⟨5, _⟩ => ⟨S40x4x3840x128, .fp8e4m3⟩
  | .hbm, ⟨6, _⟩ => ⟨S40x4x60, .f32⟩
  | .hbm, ⟨7, _⟩ => ⟨S56x56, .i1⟩
  | .hbm, ⟨8, _⟩ => ⟨S40x56x4x7x128, .bf16⟩
  | .hbm, ⟨9, _⟩ => ⟨S40x4x7x56x128, .bf16⟩
  | .hbm, ⟨10, _⟩ => ⟨S40x4x392x128, .bf16⟩
  | .hbm, ⟨11, _⟩ => ⟨S40x4x60x64, .f32⟩
  | .hbm, ⟨12, _⟩ => ⟨S40x4x3840, .f32⟩
  | .hbm, ⟨13, _⟩ => ⟨S40x4x15x1x256, .f32⟩
  | .hbm, ⟨14, _⟩ => ⟨S40x4x60x64, .f32⟩
  | .hbm, ⟨15, _⟩ => ⟨S40x4x3840, .f32⟩
  | .hbm, ⟨16, _⟩ => ⟨S40x4x15x1x256, .f32⟩
  | .hbm, ⟨17, _⟩ => ⟨S56x56, .f32⟩
  | .hbm, ⟨18, _⟩ => ⟨S1x56x1x56, .f32⟩
  | .hbm, ⟨19, _⟩ => ⟨S7x56x1x56, .f32⟩
  | .hbm, ⟨20, _⟩ => ⟨S392x56, .f32⟩
  | .hbm, ⟨21, _⟩ => ⟨S40x4x392x128, .bf16⟩
  | .hbm, ⟨22, _⟩ => ⟨S40x4x56x128, .fp8e4m3⟩
  | .hbm, ⟨23, _⟩ => ⟨S40x4x1x56, .f32⟩
  | .hbm, ⟨24, _⟩ => ⟨S40x4x56x128, .fp8e4m3⟩
  | .hbm, ⟨25, _⟩ => ⟨S40x4x1x56, .f32⟩
  | .hbm, ⟨26, _⟩ => ⟨S40x4x7x56x128, .bf16⟩
  | .hbm, ⟨27, _⟩ => ⟨S40x56x4x7x128, .bf16⟩
  | .hbm, ⟨28, _⟩ => ⟨S40x56x28x128, .bf16⟩
  | .hbm, ⟨29, _⟩ => ⟨S40x4x56, .f32⟩
  | .hbm, ⟨30, _⟩ => ⟨S40x4x56, .f32⟩
  | .local _ .vmem, ⟨0, _⟩ => ⟨S1x1x392x128, .bf16⟩
  | .local _ .vmem, ⟨1, _⟩ => ⟨S1x1x392x128, .bf16⟩
  | .local _ .vmem, ⟨2, _⟩ => ⟨S1x1x56x128, .bf16⟩
  | .local _ .vmem, ⟨3, _⟩ => ⟨S1x1x56x128, .bf16⟩
  | .local _ .vmem, ⟨4, _⟩ => ⟨S1x1x56x128, .bf16⟩
  | .local _ .vmem, ⟨5, _⟩ => ⟨S1x1x56x128, .bf16⟩
  | .local _ .vmem, ⟨6, _⟩ => ⟨S1x1x3840x128, .fp8e4m3⟩
  | .local _ .vmem, ⟨7, _⟩ => ⟨S1x1x3840x128, .fp8e4m3⟩
  | .local _ .vmem, ⟨8, _⟩ => ⟨S1x1x15x1x256, .f32⟩
  | .local _ .vmem, ⟨9, _⟩ => ⟨S1x1x15x1x256, .f32⟩
  | .local _ .vmem, ⟨10, _⟩ => ⟨S1x1x3840x128, .fp8e4m3⟩
  | .local _ .vmem, ⟨11, _⟩ => ⟨S1x1x3840x128, .fp8e4m3⟩
  | .local _ .vmem, ⟨12, _⟩ => ⟨S1x1x15x1x256, .f32⟩
  | .local _ .vmem, ⟨13, _⟩ => ⟨S1x1x15x1x256, .f32⟩
  | .local _ .vmem, ⟨14, _⟩ => ⟨S392x56, .f32⟩
  | .local _ .vmem, ⟨15, _⟩ => ⟨S1x1x392x128, .bf16⟩
  | .local _ .vmem, ⟨16, _⟩ => ⟨S1x1x392x128, .bf16⟩
  | .local _ .vmem, ⟨17, _⟩ => ⟨S1x1x56x128, .fp8e4m3⟩
  | .local _ .vmem, ⟨18, _⟩ => ⟨S1x1x56x128, .fp8e4m3⟩
  | .local _ .vmem, ⟨19, _⟩ => ⟨S1x1x1x56, .f32⟩
  | .local _ .vmem, ⟨20, _⟩ => ⟨S1x1x1x56, .f32⟩
  | .local _ .vmem, ⟨21, _⟩ => ⟨S1x1x56x128, .fp8e4m3⟩
  | .local _ .vmem, ⟨22, _⟩ => ⟨S1x1x56x128, .fp8e4m3⟩
  | .local _ .vmem, ⟨23, _⟩ => ⟨S1x1x1x56, .f32⟩
  | .local _ .vmem, ⟨24, _⟩ => ⟨S1x1x1x56, .f32⟩
  | .local _ .smem, ⟨0, _⟩ => ⟨S40, .i32⟩
  | _, _ => ⟨S40x56x28x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![40, 4], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_60 : BitVec 32 := 0#32
  let c255_i32 : BitVec 32 := 255#32
  let v132 : BitVec 32 := Scalar.addi v1 c255_i32
  let c256_i32 : BitVec 32 := 256#32
  let v133 : BitVec 32 := Scalar.divsi v132 c256_i32
  let v134 : BitVec 32 := Scalar.subi v133 c0_i32_60
  let c1_i32 : BitVec 32 := 1#32
  let v136 : BitVec 32 := Scalar.divsi v134 c1_i32
  let v137 : BitVec 32 := Scalar.muli v136 c1_i32
  let v138 : BitVec 32 := Scalar.addi c0_i32_60 v137
  let c1_i32_61 : BitVec 32 := 1#32
  ⟨c0_i32_60, v138, c1_i32_61⟩

def k0_off2 (v1 : BitVec 32) (k0_t1 : Fin (k0_t1_loop v1).trips) : Fin 4 → Nat :=
  let c0_68 : Index := 0#32
  let c0_69 : Index := 0#32
  let c0_i32_60 : BitVec 32 := 0#32
  let c1_i32_61 : BitVec 32 := 1#32
  let arg16 : BitVec 32 := Scf.iv c0_i32_60 c1_i32_61 k0_t1
  let c256_i32_67 : BitVec 32 := 256#32
  let v147 : BitVec 32 := Scalar.muli arg16 c256_i32_67
  let v148 : Index := Scalar.indexCast v147
  let c0_70 : Index := 0#32
  ![0, 0, v148.toNat, 0]
def k0_off3 (v1 : BitVec 32) (k0_t1 : Fin (k0_t1_loop v1).trips) : Fin 5 → Nat :=
  let c0_75 : Index := 0#32
  let c0_76 : Index := 0#32
  let c0_i32_60 : BitVec 32 := 0#32
  let c1_i32_61 : BitVec 32 := 1#32
  let arg16 : BitVec 32 := Scf.iv c0_i32_60 c1_i32_61 k0_t1
  let v157 : Index := Scalar.indexCast arg16
  let c0_77 : Index := 0#32
  let c0_78 : Index := 0#32
  ![0, 0, v157.toNat, 0, 0]
@[reducible] def k0_t2_loop (v1 : BitVec 32) : Scf.Loop 32 :=
  let c0_i32_60 : BitVec 32 := 0#32
  let c255_i32 : BitVec 32 := 255#32
  let v132 : BitVec 32 := Scalar.addi v1 c255_i32
  let c256_i32 : BitVec 32 := 256#32
  let v133 : BitVec 32 := Scalar.divsi v132 c256_i32
  let v134 : BitVec 32 := Scalar.subi v133 c0_i32_60
  let c1_i32 : BitVec 32 := 1#32
  let v136 : BitVec 32 := Scalar.divsi v134 c1_i32
  let v137 : BitVec 32 := Scalar.muli v136 c1_i32
  let v138 : BitVec 32 := Scalar.addi c0_i32_60 v137
  let v135 : BitVec 32 := Scalar.addi c0_i32_60 v134
  let c1_i32_62 : BitVec 32 := 1#32
  ⟨v138, v135, c1_i32_62⟩
def k0_off4 (v1 : BitVec 32) (k0_t2 : Fin (k0_t2_loop v1).trips) : Fin 4 → Nat :=
  let c0_68 : Index := 0#32
  let c0_69 : Index := 0#32
  let c0_i32_60 : BitVec 32 := 0#32
  let c255_i32 : BitVec 32 := 255#32
  let v132 : BitVec 32 := Scalar.addi v1 c255_i32
  let c256_i32 : BitVec 32 := 256#32
  let v133 : BitVec 32 := Scalar.divsi v132 c256_i32
  let v134 : BitVec 32 := Scalar.subi v133 c0_i32_60
  let c1_i32 : BitVec 32 := 1#32
  let v136 : BitVec 32 := Scalar.divsi v134 c1_i32
  let v137 : BitVec 32 := Scalar.muli v136 c1_i32
  let v138 : BitVec 32 := Scalar.addi c0_i32_60 v137
  let c1_i32_62 : BitVec 32 := 1#32
  let arg16 : BitVec 32 := Scf.iv v138 c1_i32_62 k0_t2
  let c256_i32_67 : BitVec 32 := 256#32
  let v147 : BitVec 32 := Scalar.muli arg16 c256_i32_67
  let v148 : Index := Scalar.indexCast v147
  let c0_70 : Index := 0#32
  ![0, 0, v148.toNat, 0]
def k0_off5 (v1 : BitVec 32) (k0_t2 : Fin (k0_t2_loop v1).trips) : Fin 5 → Nat :=
  let c0_75 : Index := 0#32
  let c0_76 : Index := 0#32
  let c0_i32_60 : BitVec 32 := 0#32
  let c255_i32 : BitVec 32 := 255#32
  let v132 : BitVec 32 := Scalar.addi v1 c255_i32
  let c256_i32 : BitVec 32 := 256#32
  let v133 : BitVec 32 := Scalar.divsi v132 c256_i32
  let v134 : BitVec 32 := Scalar.subi v133 c0_i32_60
  let c1_i32 : BitVec 32 := 1#32
  let v136 : BitVec 32 := Scalar.divsi v134 c1_i32
  let v137 : BitVec 32 := Scalar.muli v136 c1_i32
  let v138 : BitVec 32 := Scalar.addi c0_i32_60 v137
  let c1_i32_62 : BitVec 32 := 1#32
  let arg16 : BitVec 32 := Scf.iv v138 c1_i32_62 k0_t2
  let v157 : Index := Scalar.indexCast arg16
  let c0_77 : Index := 0#32
  let c0_78 : Index := 0#32
  ![0, 0, v157.toNat, 0, 0]

def k0_chk1 (v1 : BitVec 32) : Prop :=
  ((k0_t1_loop v1).OK) ∧
  (∀ k0_t1 : Fin (k0_t1_loop v1).trips, ∀ a, (k0_off2 v1 k0_t1) a + S1x1x256x128.size a ≤ S1x1x3840x128.size a) ∧
  (∀ k0_t1 : Fin (k0_t1_loop v1).trips, ∀ a, (k0_off3 v1 k0_t1) a + S1x1x1x1x256.size a ≤ S1x1x15x1x256.size a) ∧
  ((k0_t2_loop v1).OK) ∧
  (∀ k0_t2 : Fin (k0_t2_loop v1).trips, ∀ a, (k0_off4 v1 k0_t2) a + S1x1x256x128.size a ≤ S1x1x3840x128.size a) ∧
  (∀ k0_t2 : Fin (k0_t2_loop v1).trips, ∀ a, (k0_off5 v1 k0_t2) a + S1x1x1x1x256.size a ≤ S1x1x15x1x256.size a)
theorem k0_t1_ok : ∀ (v1 : BitVec 32) (k0_hw1 : k0_chk1 v1), (k0_t1_loop v1).OK := fun v1 k0_hw1 => k0_hw1.1
theorem k0_off2_inb : ∀ (v1 : BitVec 32) (k0_hw1 : k0_chk1 v1) (k0_t1 : Fin (k0_t1_loop v1).trips), ∀ a, (k0_off2 v1 k0_t1) a + S1x1x256x128.size a ≤ S1x1x3840x128.size a := fun v1 k0_hw1 k0_t1 => k0_hw1.2.1 k0_t1
theorem k0_off3_inb : ∀ (v1 : BitVec 32) (k0_hw1 : k0_chk1 v1) (k0_t1 : Fin (k0_t1_loop v1).trips), ∀ a, (k0_off3 v1 k0_t1) a + S1x1x1x1x256.size a ≤ S1x1x15x1x256.size a := fun v1 k0_hw1 k0_t1 => k0_hw1.2.2.1 k0_t1
theorem k0_t2_ok : ∀ (v1 : BitVec 32) (k0_hw1 : k0_chk1 v1), (k0_t2_loop v1).OK := fun v1 k0_hw1 => k0_hw1.2.2.2.1
theorem k0_off4_inb : ∀ (v1 : BitVec 32) (k0_hw1 : k0_chk1 v1) (k0_t2 : Fin (k0_t2_loop v1).trips), ∀ a, (k0_off4 v1 k0_t2) a + S1x1x256x128.size a ≤ S1x1x3840x128.size a := fun v1 k0_hw1 k0_t2 => k0_hw1.2.2.2.2.1 k0_t2
theorem k0_off5_inb : ∀ (v1 : BitVec 32) (k0_hw1 : k0_chk1 v1) (k0_t2 : Fin (k0_t2_loop v1).trips), ∀ a, (k0_off5 v1 k0_t2) a + S1x1x1x1x256.size a ≤ S1x1x15x1x256.size a := fun v1 k0_hw1 k0_t2 => k0_hw1.2.2.2.2.2 k0_t2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x392x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x56x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x56x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3840x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x15x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x3840x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x15x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S392x56 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x392x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x56x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x56 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x56x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x56 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e_scale" => some (((Real.sqrt 128)⁻¹ * (Real.log 2)⁻¹ : ℝ) : EReal)
  | "neg_inf" => some ⊥
  | _ => none
-- ==== Reference.lean ====
abbrev S40x56x28x128 : Shape := ⟨4, ![40, 56, 28, 128]⟩
abbrev S40x4x56x128 : Shape := ⟨4, ![40, 4, 56, 128]⟩
abbrev S40x4x3840x128 : Shape := ⟨4, ![40, 4, 3840, 128]⟩
abbrev S40x4x60 : Shape := ⟨3, ![40, 4, 60]⟩
abbrev S40 : Shape := ⟨1, ![40]⟩
abbrev S56x56 : Shape := ⟨2, ![56, 56]⟩
abbrev S40x4x56 : Shape := ⟨3, ![40, 4, 56]⟩
abbrev S40x4x56x1 : Shape := ⟨4, ![40, 4, 56, 1]⟩
abbrev S40x56x4x7x128 : Shape := ⟨5, ![40, 56, 4, 7, 128]⟩
abbrev S40x4x7x56x128 : Shape := ⟨5, ![40, 4, 7, 56, 128]⟩
abbrev S40x4x392x128 : Shape := ⟨4, ![40, 4, 392, 128]⟩
abbrev S40x4x60x64 : Shape := ⟨4, ![40, 4, 60, 64]⟩
abbrev S40x4x3840 : Shape := ⟨3, ![40, 4, 3840]⟩
abbrev S40x4x392x3840 : Shape := ⟨4, ![40, 4, 392, 3840]⟩
abbrev S40x4x1x3840 : Shape := ⟨4, ![40, 4, 1, 3840]⟩
abbrev S_ : Shape := ⟨0, ![]⟩
abbrev S3840 : Shape := ⟨1, ![3840]⟩
abbrev S1x3840 : Shape := ⟨2, ![1, 3840]⟩
abbrev S40x1 : Shape := ⟨2, ![40, 1]⟩
abbrev S40x3840 : Shape := ⟨2, ![40, 3840]⟩
abbrev S40x1x1x3840 : Shape := ⟨4, ![40, 1, 1, 3840]⟩
abbrev S40x4x7x56x56 : Shape := ⟨5, ![40, 4, 7, 56, 56]⟩
abbrev S40x4x1x1x56 : Shape := ⟨5, ![40, 4, 1, 1, 56]⟩
abbrev S1x1x1x56x56 : Shape := ⟨5, ![1, 1, 1, 56, 56]⟩
abbrev S40x4x392 : Shape := ⟨3, ![40, 4, 392]⟩
abbrev S40x4x7x56 : Shape := ⟨4, ![40, 4, 7, 56]⟩
abbrev S40x4x392x1 : Shape := ⟨4, ![40, 4, 392, 1]⟩
abbrev S40x4x7x56x1 : Shape := ⟨5, ![40, 4, 7, 56, 1]⟩

abbrev nBuf : Space → Nat
  | .hbm => 100
  | .vmem => 12
  | .smem => 0
  | _ => 0

abbrev bufTy : (tb : Table) → Fin (tcTables nBuf tb) → BufTy
  | .hbm, ⟨0, _⟩ => ⟨S40x56x28x128, .bf16⟩
  | .hbm, ⟨1, _⟩ => ⟨S40x4x56x128, .bf16⟩
  | .hbm, ⟨2, _⟩ => ⟨S40x4x56x128, .bf16⟩
  | .hbm, ⟨3, _⟩ => ⟨S40x4x3840x128, .fp8e4m3⟩
  | .hbm, ⟨4, _⟩ => ⟨S40x4x60, .f32⟩
  | .hbm, ⟨5, _⟩ => ⟨S40x4x3840x128, .fp8e4m3⟩
  | .hbm, ⟨6, _⟩ => ⟨S40x4x60, .f32⟩
  | .hbm, ⟨7, _⟩ => ⟨S40, .i32⟩
  | .hbm, ⟨8, _⟩ => ⟨S56x56, .i1⟩
  | .hbm, ⟨9, _⟩ => ⟨S40x4x56x128, .fp8e4m3⟩
  | .hbm, ⟨10, _⟩ => ⟨S40x4x56, .f32⟩
  | .hbm, ⟨11, _⟩ => ⟨S40x4x56x128, .fp8e4m3⟩
  | .hbm, ⟨12, _⟩ => ⟨S40x4x56, .f32⟩
  | .hbm, ⟨13, _⟩ => ⟨S40x4x56x128, .bf16⟩
  | .hbm, ⟨14, _⟩ => ⟨S40x4x56x128, .bf16⟩
  | .hbm, ⟨15, _⟩ => ⟨S40x4x3840x128, .bf16⟩
  | .hbm, ⟨16, _⟩ => ⟨S40x4x3840x128, .bf16⟩
  | .hbm, ⟨17, _⟩ => ⟨S40x56x4x7x128, .bf16⟩
  | .hbm, ⟨18, _⟩ => ⟨S40x4x7x56x128, .bf16⟩
  | .hbm, ⟨19, _⟩ => ⟨S40x4x392x128, .bf16⟩
  | .hbm, ⟨20, _⟩ => ⟨S40x4x60x64, .f32⟩
  | .hbm, ⟨21, _⟩ => ⟨S40x4x3840, .f32⟩
  | .hbm, ⟨22, _⟩ => ⟨S40x4x60x64, .f32⟩
  | .hbm, ⟨23, _⟩ => ⟨S40x4x3840, .f32⟩
  | .hbm, ⟨24, _⟩ => ⟨S40x4x392x3840, .f32⟩
  | .hbm, ⟨25, _⟩ => ⟨S40x4x1x3840, .f32⟩
  | .hbm, ⟨26, _⟩ => ⟨S40x4x392x3840, .f32⟩
  | .hbm, ⟨27, _⟩ => ⟨S40x4x392x3840, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S40x4x392x3840, .f32⟩
  | .hbm, ⟨32, _⟩ => ⟨S40x4x392x3840, .f32⟩
  | .hbm, ⟨33, _⟩ => ⟨S3840, .i32⟩
  | .hbm, ⟨34, _⟩ => ⟨S1x3840, .i32⟩
  | .hbm, ⟨35, _⟩ => ⟨S40x1, .i32⟩
  | .hbm, ⟨36, _⟩ => ⟨S40x3840, .i32⟩
  | .hbm, ⟨37, _⟩ => ⟨S40x3840, .i32⟩
  | .hbm, ⟨38, _⟩ => ⟨S40x3840, .i1⟩
  | .hbm, ⟨39, _⟩ => ⟨S40x1x1x3840, .i1⟩
  | .hbm, ⟨40, _⟩ => ⟨S_, .f32⟩
  | .hbm, ⟨41, _⟩ => ⟨S_, .f32⟩
  | .hbm, ⟨42, _⟩ => ⟨S40x4x392x3840, .i1⟩
  | .hbm, ⟨43, _⟩ => ⟨S40x4x392x3840, .f32⟩
  | .hbm, ⟨44, _⟩ => ⟨S40x4x392x3840, .f32⟩
  | .hbm, ⟨45, _⟩ => ⟨S40x4x7x56x56, .f32⟩
  | .hbm, ⟨46, _⟩ => ⟨S40x4x1x1x56, .f32⟩
  | .hbm, ⟨47, _⟩ => ⟨S40x4x7x56x56, .f32⟩
  | .hbm, ⟨48, _⟩ => ⟨S40x4x7x56x56, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S40x4x7x56x56, .f32⟩
  | .hbm, ⟨53, _⟩ => ⟨S40x4x7x56x56, .f32⟩
  | .hbm, ⟨54, _⟩ => ⟨S1x1x1x56x56, .i1⟩
  | .hbm, ⟨55, _⟩ => ⟨S_, .f32⟩
  | .hbm, ⟨56, _⟩ => ⟨S_, .f32⟩
  | .hbm, ⟨57, _⟩ => ⟨S40x4x7x56x56, .i1⟩
  | .hbm, ⟨58, _⟩ => ⟨S40x4x7x56x56, .f32⟩
  | .hbm, ⟨59, _⟩ => ⟨S40x4x7x56x56, .f32⟩
  | .hbm, ⟨60, _⟩ => ⟨S_, .f32⟩
  | .hbm, ⟨61, _⟩ => ⟨S40x4x392, .f32⟩
  | .hbm, ⟨62, _⟩ => ⟨S_, .f32⟩
  | .hbm, ⟨63, _⟩ => ⟨S40x4x7x56, .f32⟩
  | .hbm, ⟨64, _⟩ => ⟨S40x4x392, .f32⟩
  | .hbm, ⟨65, _⟩ => ⟨S40x4x392, .f32⟩
  | .hbm, ⟨66, _⟩ => ⟨S40x4x7x56, .f32⟩
  | .hbm, ⟨67, _⟩ => ⟨S40x4x392x1, .f32⟩
  | .hbm, ⟨68, _⟩ => ⟨S40x4x392x3840, .f32⟩
  | .hbm, ⟨69, _⟩ => ⟨S40x4x392x3840, .f32⟩
  | .hbm, ⟨70, _⟩ => ⟨S40x4x392x3840, .f32⟩
  | .hbm, ⟨71, _⟩ => ⟨S40x4x7x56x1, .f32⟩
  | .hbm, ⟨72, _⟩ => ⟨S40x4x7x56x56, .f32⟩
  | .hbm, ⟨73, _⟩ => ⟨S40x4x7x56x56, .f32⟩
  | .hbm, ⟨74, _⟩ => ⟨S40x4x7x56x56, .f32⟩
  | .hbm, ⟨75, _⟩ => ⟨S_, .f32⟩
  | .hbm, ⟨76, _⟩ => ⟨S40x4x392, .f32⟩
  | .hbm, ⟨77, _⟩ => ⟨S_, .f32⟩
  | .hbm, ⟨78, _⟩ => ⟨S40x4x7x56, .f32⟩
  | .hbm, ⟨79, _⟩ => ⟨S40x4x392, .f32⟩
  | .hbm, ⟨80, _⟩ => ⟨S40x4x392, .f32⟩
  | .hbm, ⟨81, _⟩ => ⟨S40x4x7x56, .f32⟩
  | .hbm, ⟨82, _⟩ => ⟨S40x4x1x3840, .f32⟩
  | .hbm, ⟨83, _⟩ => ⟨S40x4x392x3840, .f32⟩
  | .hbm, ⟨84, _⟩ => ⟨S40x4x392x3840, .f32⟩
  | .hbm, ⟨85, _⟩ => ⟨S40x4x392x3840, .bf16⟩
  | .hbm, ⟨86, _⟩ => ⟨S40x4x1x1x56, .f32⟩
  | .hbm, ⟨87, _⟩ => ⟨S40x4x7x56x56, .f32⟩
  | .hbm, ⟨88, _⟩ => ⟨S40x4x7x56x56, .f32⟩
  | .hbm, ⟨89, _⟩ => ⟨S40x4x7x56x56, .bf16⟩
  | .hbm, ⟨90, _⟩ => ⟨S40x4x392x128, .f32⟩
  | .hbm, ⟨91, _⟩ => ⟨S40x4x7x56x128, .f32⟩
  | .hbm, ⟨92, _⟩ => ⟨S40x4x7x56x128, .f32⟩
  | .hbm, ⟨93, _⟩ => ⟨S40x4x7x56x128, .f32⟩
  | .hbm, ⟨94, _⟩ => ⟨S40x4x7x56x1, .f32⟩
  | .hbm, ⟨95, _⟩ => ⟨S40x4x7x56x128, .f32⟩
  | .hbm, ⟨96, _⟩ => ⟨S40x4x7x56x128, .f32⟩
  | .hbm, ⟨97, _⟩ => ⟨S40x56x4x7x128, .f32⟩
  | .hbm, ⟨98, _⟩ => ⟨S40x56x28x128, .f32⟩
  | .hbm, ⟨99, _⟩ => ⟨S40x56x28x128, .bf16⟩
  | .local _ .vmem, ⟨0, _⟩ => ⟨S40x4x56x128, .bf16⟩
  | .local _ .vmem, ⟨1, _⟩ => ⟨S40x4x56x128, .bf16⟩
  | .local _ .vmem, ⟨2, _⟩ => ⟨S40x4x3840x128, .fp8e4m3⟩
  | .local _ .vmem, ⟨3, _⟩ => ⟨S40x4x3840x128, .fp8e4m3⟩
  | .local _ .vmem, ⟨4, _⟩ => ⟨S40x4x56x128, .fp8e4m3⟩
  | .local _ .vmem, ⟨5, _⟩ => ⟨S40x4x56, .f32⟩
  | .local _ .vmem, ⟨6, _⟩ => ⟨S40x4x56x128, .fp8e4m3⟩
  | .local _ .vmem, ⟨7, _⟩ => ⟨S40x4x56, .f32⟩
  | .local _ .vmem, ⟨8, _⟩ => ⟨S40x4x56x128, .bf16⟩
  | .local _ .vmem, ⟨9, _⟩ => ⟨S40x4x56x128, .bf16⟩
  | .local _ .vmem, ⟨10, _⟩ => ⟨S40x4x3840x128, .bf16⟩
  | .local _ .vmem, ⟨11, _⟩ => ⟨S40x4x3840x128, .bf16⟩
  | _, _ => ⟨S40x56x28x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_cst_3 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S40x4x56x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x4x56x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x4x3840x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x4x3840x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x4x56x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x4x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x4x56x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x4x56 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x4x56x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40x4x56x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S40x4x3840x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S40x4x3840x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Words.lean ====
/- The trip counts of the kernel's two counted loops from the cached length's word, the index words its trips compute, and what
   they give of the two printed programs: the side condition the body assumes (`k0_chk1`) holds when the word is at most 3840. -/
module

public import proofs.«01_k».proof.Proof.Gen.Kernel
public import proofs.«01_k».proof.Proof.Gen.KernelIdeal
public import Idealize.ShloMosaic.Lib.LoopRemainder

@[expose] public section

namespace Cert.Words

open Idealize.ShloMosaic

/-- The number of 256-token chunks that hold a token below `n`, as the kernel counts them. -/
def chunks (n : BitVec 32) : Nat := ((n.toInt + 255).tdiv 256).toNat

/-- The word that bounds the first loop. -/
abbrev bound (n : BitVec 32) : BitVec 32 :=
  Scalar.addi 0#32 (Scalar.muli (Scalar.divsi (Scalar.subi (Scalar.divsi (Scalar.addi n 255#32) 256#32) 0#32) 1#32) 1#32)

/-- A length of at most 3840 is covered by at most 15 chunks. -/
theorem chunks_le (n : BitVec 32) (h : n.toInt ≤ 3840) : chunks n ≤ 15 := by
  unfold chunks
  by_cases h0 : 0 ≤ n.toInt + 255
  · rw [Int.tdiv_eq_ediv_of_nonneg h0]; omega
  · have e : n.toInt + 255 = -(-(n.toInt + 255)) := by omega
    have := Int.tdiv_nonneg (a := -(n.toInt + 255)) (b := 256) (by omega) (by omega)
    rw [e, Int.neg_tdiv]; omega

/-- The bounding word, read signed, is the rounded quotient. -/
theorem bound_toInt (n : BitVec 32) (h : n.toInt ≤ 3840) : (bound n).toInt = (n.toInt + 255).tdiv 256 := by
  have hlo := BitVec.le_toInt n
  have hadd : (n + 255#32).toInt = n.toInt + 255 := by
    rw [BitVec.toInt_add, show (255#32 : BitVec 32).toInt = 255 from by decide]
    exact Int.bmod_eq_of_le (by norm_num at hlo ⊢; omega) (by norm_num; omega)
  have hb : bound n = (n + 255#32).sdiv 256#32 := by
    unfold bound
    rw [Scalar.muli_divsi_one]
    have hd : ∀ x : BitVec 32, Scalar.divsi x 256#32 = x.sdiv 256#32 := fun x => by
      unfold Scalar.divsi IntOp.divsi
      exact if_neg (by rintro (h | ⟨_, h⟩) <;> exact absurd h (by decide))
    rw [hd]
    simp only [Scalar.addi, Scalar.subi, IntOp.addi, IntOp.subi, BitVec.sub_zero, BitVec.zero_add]
  rw [hb, BitVec.toInt_sdiv_of_ne_or_ne _ _ (Or.inr (by decide)), hadd]
  rfl

/-- The first loop's trip count. -/
theorem trips_eq (n : BitVec 32) (h : n.toInt ≤ 3840) : Scf.trips 0#32 (bound n) 1#32 = chunks n := by
  unfold Scf.trips chunks
  rw [bound_toInt n h, show (1#32 : BitVec 32).toInt = 1 from by decide, show (0#32 : BitVec 32).toInt = 0 from by decide]
  congr 1; omega

/-- The first loop's operands give it a meaning. -/
theorem ok (n : BitVec 32) (h : n.toInt ≤ 3840) : Scf.OK 0#32 (bound n) 1#32 := by
  have h1 := chunks_le n h
  refine ⟨by decide, ?_⟩
  rw [trips_eq n h, show (1#32 : BitVec 32).toInt = 1 from by decide, show (0#32 : BitVec 32).toInt = 0 from by decide]
  norm_num; omega

/-- The induction variable's word at trip `k` is `k`. -/
theorem iv_toNat (k : Nat) (h : k < 15) : (Scf.iv 0#32 1#32 k).toNat = k := by
  unfold Scf.iv
  rw [BitVec.zero_add, BitVec.mul_one, BitVec.toNat_ofNat]
  exact Nat.mod_eq_of_lt (by omega)

/-- The first token of chunk `k` is `256 k`. -/
theorem row_toNat (k : Nat) (h : k < 15) : (Scalar.indexCast (Scalar.muli (Scf.iv 0#32 1#32 k) 256#32)).toNat = k * 256 := by
  have e := iv_toNat k h
  simp only [Scalar.indexCast, Scalar.muli, IntOp.muli]
  rw [BitVec.toNat_mul, e, show (256#32 : BitVec 32).toNat = 256 from rfl]
  exact Nat.mod_eq_of_lt (by omega)

end Cert.Words

namespace Cert.KernelIdeal.Words

open Idealize.ShloMosaic Cert.KernelIdeal

/-- The first loop runs one trip per chunk. -/
theorem trips1 (n : BitVec 32) (h : n.toInt ≤ 3840) : (k0_t1_loop n).trips = Cert.Words.chunks n := Cert.Words.trips_eq n h

/-- The remainder loop runs none. -/
theorem trips2 (n : BitVec 32) : (k0_t2_loop n).trips = 0 := Scf.rem_trips _ _

/-- Where trip `k` reads its chunk of the cached codes. -/
theorem off2 (n : BitVec 32) (h : n.toInt ≤ 3840) (k : Fin (k0_t1_loop n).trips) : k0_off2 n k = ![0, 0, k.val * 256, 0] := by
  have hk : k.val < 15 := lt_of_lt_of_le (trips1 n h ▸ k.isLt) (Cert.Words.chunks_le n h)
  have e := Cert.Words.row_toNat k.val hk
  unfold k0_off2
  simp only [e]

/-- Where trip `k` reads its chunk of the cached scales. -/
theorem off3 (n : BitVec 32) (h : n.toInt ≤ 3840) (k : Fin (k0_t1_loop n).trips) : k0_off3 n k = ![0, 0, k.val, 0, 0] := by
  have hk : k.val < 15 := lt_of_lt_of_le (trips1 n h ▸ k.isLt) (Cert.Words.chunks_le n h)
  have e := Cert.Words.iv_toNat k.val hk
  unfold k0_off3
  simp only [Scalar.indexCast, e]

/-- What the body assumes of the cached length holds when it is at most 3840. -/
theorem chk1 (n : BitVec 32) (h : n.toInt ≤ 3840) : k0_chk1 n := by
  refine ⟨Cert.Words.ok n h, fun k => ?_, fun k => ?_, Scf.rem_ok _ _, fun k => (Scf.rem_no_trip _ _ k).elim, fun k => (Scf.rem_no_trip _ _ k).elim⟩
  · have hk : k.val < 15 := lt_of_lt_of_le (trips1 n h ▸ k.isLt) (Cert.Words.chunks_le n h)
    rw [off2 n h k]; intro a; fin_cases a <;> simp <;> omega
  · have hk : k.val < 15 := lt_of_lt_of_le (trips1 n h ▸ k.isLt) (Cert.Words.chunks_le n h)
    rw [off3 n h k]; intro a; fin_cases a <;> simp <;> omega

end Cert.KernelIdeal.Words

namespace Cert.Kernel.Words

open Idealize.ShloMosaic Cert.Kernel

/-- What the body assumes of the cached length holds when it is at most 3840. -/
theorem chk1 (n : BitVec 32) (h : n.toInt ≤ 3840) : k0_chk1 n := Cert.KernelIdeal.Words.chk1 n h

end Cert.Kernel.Words
-- ==== Proof.Lengths.lean ====
/- What the two preconditions give at one array index, and the frames of the kernel and of its idealization under them:
   every cached length is at most 3840, so each word that the body reads from its prefetched table passes the body's check. -/
module

public import proofs.«01_k».proof.Defs
public import proofs.«01_k».proof.Proof.Words
public import proofs.«01_k».proof.Proof.Gen.Kernel.Frame
public import proofs.«01_k».proof.Proof.Gen.KernelIdeal.Frame
public import proofs.«01_k».proof.Proof.Gen.Pre_cache_fits
public import proofs.«01_k».proof.Proof.Gen.Pre_fits_and_finite
public import Idealize.ShloMosaic.Lib.ValueIdx

@[expose] public section

set_option maxRecDepth 16384

noncomputable section

open Idealize.ShloMosaic Idealize.ShloMosaic.TcCoe Idealize.SL.Sem

/-- A signed comparison against 3840 that reads 1 bounds the word. -/
theorem Cert.Words.le_of_sle (n : BitVec 32) (h : IntOp.cmpi .sle n 3840#32 = 1#1) : n.toInt ≤ 3840 := by
  have hb : (BitVec.ofBool (n.sle 3840#32) = 1#1) := h
  have : n.sle 3840#32 = true := by
    cases hc : n.sle 3840#32 with
    | true => rfl
    | false => rw [hc] at hb; exact absurd hb (by decide)
  rw [BitVec.sle_eq_decide] at this
  simpa using this

namespace Cert.Kernel.Lengths

open Cert.Kernel Cert.Kernel.Gen

/-- Every cached length is at most 3840. -/
theorem fits (m : (ℓ : Loc nD τ sig) → Buf (Elt Bits) ℓ) (h : Cert.Pre_Kernel m) (c : Dev nD) (i : S40.Idx) :
    (show BitVec 32 from m ((c : Thread nD τ).loc main_arg7) i).toInt ≤ 3840 :=
  Cert.Words.le_of_sle _ (congrFun (h c) i)

/-- A word read from a table of such lengths is one. -/
theorem read_le (f : S40.Idx → BitVec 32) (h : ∀ i, (f i).toInt ≤ 3840) (r : LoadRect S40) (x : r.shape.Idx) :
    (show BitVec 32 from View.readAt (Elt Bits) tbM0_0.view r f x).toInt ≤ 3840 := by
  rw [View.readAt_apply]; exact h _

/-- The prefetched table is the lengths' array. -/
theorem tbl_eq (m : (ℓ : Loc nD τ sig) → Buf (Elt Bits) ℓ) : tbl m 0 = m (((0 : Dev nD) : Thread nD τ).loc main_arg7) := V_main_arg7 m 0

/-- What the body assumes of the lengths it reads. -/
theorem hyps_of_pre (m : (ℓ : Loc nD τ sig) → Buf (Elt Bits) ℓ) (h : Cert.Pre_Kernel m) (hO : Ok m) : Hyps m hO := by
  intro c t
  exact Cert.Kernel.Words.chk1 _ (read_le _ (by rw [tbl_eq m]; exact fits m h 0) _ _)

end Cert.Kernel.Lengths

namespace Cert.KernelIdeal.Lengths

open Cert.KernelIdeal Cert.KernelIdeal.Gen

/-- Every cached length is at most 3840. -/
theorem fits (m : (ℓ : Loc nD τ sig) → Buf (Elt Ideal) ℓ) (h : Cert.Pre_KernelIdeal m) (c : Dev nD) (i : S40.Idx) :
    (show BitVec 32 from m ((c : Thread nD τ).loc main_arg7) i).toInt ≤ 3840 :=
  Cert.Words.le_of_sle _ (congrFun (h c) i)

/-- The same under the stronger precondition. -/
theorem fits' (m : (ℓ : Loc nD τ sig) → Buf (Elt Ideal) ℓ) (h : Cert.Pre_KernelIdeal_fits_and_finite m) (c : Dev nD) (i : S40.Idx) :
    (show BitVec 32 from m ((c : Thread nD τ).loc main_arg7) i).toInt ≤ 3840 :=
  Cert.Words.le_of_sle _ (congrFun (h c).1 i)

/-- A word read from a table of such lengths is one. -/
theorem read_le (f : S40.Idx → BitVec 32) (h : ∀ i, (f i).toInt ≤ 3840) (r : LoadRect S40) (x : r.shape.Idx) :
    (show BitVec 32 from View.readAt (Elt Ideal) tbM0_0.view r f x).toInt ≤ 3840 := by
  rw [View.readAt_apply]; exact h _

/-- The prefetched table is the lengths' array. -/
theorem tbl_eq (m : (ℓ : Loc nD τ sig) → Buf (Elt Ideal) ℓ) : tbl m 0 = m (((0 : Dev nD) : Thread nD τ).loc main_arg7) := V_main_arg7 m 0

/-- What the body assumes of the lengths it reads. -/
theorem hyps_of_fits (m : (ℓ : Loc nD τ sig) → Buf (Elt Ideal) ℓ)
    (h : ∀ i : S40.Idx, (show BitVec 32 from m (((0 : Dev nD) : Thread nD τ).loc main_arg7) i).toInt ≤ 3840) (hO : Ok m) : Hyps m hO := by
  intro c t
  exact Cert.KernelIdeal.Words.chk1 _ (read_le _ (by rw [tbl_eq m]; exact h) _ _)

end Cert.KernelIdeal.Lengths
-- ==== Proof.Payload.lean ====
/- The kernel's stored and carried values, read at one index of their arrays over the extended reals. -/
module

public import proofs.«01_k».proof.Proof.Words
public import proofs.«01_k».proof.Proof.Gen.KernelIdeal.Frame
public import Idealize.ShloMosaic.Lib.Pipeline.ValueKit

@[expose] public section

set_option maxRecDepth 16384

noncomputable section

namespace Cert.KernelIdeal.Payload

open Idealize.ShloMosaic Idealize.SL.Sem Idealize.ShloMosaic.Pipeline Cert.KernelIdeal Cert.KernelIdeal.Gen

/-- The score scale: the softmax's scale times `1 / log 2`. -/
abbrev c : EReal := (((Real.sqrt 128)⁻¹ * (Real.log 2)⁻¹ : ℝ) : EReal)

/-- The kernel's named scale is that number. -/
theorem scale_eq : (Named.named Cert.KernelIdeal.κ "log2e_scale" 1040356334#32 : Ideal .f32) = c :=
  IdealRules.named_const.ideal_named_scalar _ _ _ _ rfl

/-- The kernel's named mask value is -∞. -/
theorem neg_inf_eq : (Named.named Cert.KernelIdeal.κ "neg_inf" 4048155338#32 : Ideal .f32) = ⊥ :=
  IdealRules.named_const.ideal_named_scalar _ _ _ _ rfl

/-- The word a maximum starts at is -∞. -/
theorem ofBits_neg_inf : Ideal.ofBits .f32 4286578688#32 = ⊥ := by
  simp [Ideal.ofBits, Ideal.ieee]

/-- A maximum taken from -∞ is the supremum. -/
theorem fold_max {ι : Type*} [Fintype ι] (f : ι → EReal) :
    Finset.fold max (Ideal.ofBits .f32 4286578688#32) f Finset.univ = Finset.univ.sup f := by
  rw [ofBits_neg_inf]; rfl

/-- The word of token `256 k + j`, read signed. -/
theorem token_toInt (k : ℕ) (h : k < 15) (j : Fin 256) :
    (IntOp.addi (Scalar.muli (Scf.iv 0#32 1#32 k) 256#32) (BitVec.ofNat 32 j.val)).toInt = ((k * 256 + j.val : ℕ) : ℤ) := by
  have e : (Scalar.muli (Scf.iv 0#32 1#32 k) 256#32).toNat = k * 256 := Cert.Words.row_toNat k h
  have hj := j.isLt
  have e2 : (IntOp.addi (Scalar.muli (Scf.iv 0#32 1#32 k) 256#32) (BitVec.ofNat 32 j.val)).toNat = k * 256 + j.val := by
    unfold IntOp.addi
    rw [BitVec.toNat_add, e, BitVec.toNat_ofNat, Nat.mod_eq_of_lt (a := j.val) (by omega), Nat.mod_eq_of_lt (by omega)]
  rw [BitVec.toInt_eq_toNat_of_lt (by rw [e2]; omega), e2]

/-- The test "this token is below the cached length", decided by its word. -/
theorem select_slt (x y : BitVec 32) (a b : EReal) :
    Scalar.select (IntOp.cmpi CmpIPredicate.slt x y) a b = if x.toInt < y.toInt then a else b := by
  unfold Scalar.select IntOp.cmpi
  by_cases h : x.toInt < y.toInt <;> simp [h, BitVec.slt]

/-- A chunk's masked scores. -/
theorem pay10 (n : Elt Ideal .i32) (hn : n.toInt ≤ 3840) (q : FVec Ideal S392x128 .bf16) (k : Fin (k0_t1_loop n).trips)
    (x : Vec Ideal S1x1x256x128 .fp8e4m3) (s : Vec Ideal S1x1x1x1x256 .f32) (r : Fin 392) (j : Fin 256) :
    k0_pay10 n q 0#32 1#32 k x s (ix2 r j)
      = (if ((k.val * 256 + j.val : ℕ) : ℤ) < n.toInt
          then (∑ d : Fin 128, q (ix2 r d) * x (ix4 0 0 j d)) * (s (ix5 0 0 0 0 j) * c) else ⊥ : EReal) := by
  have hk : k.val < 15 := lt_of_lt_of_le (Words.trips1 n hn ▸ k.isLt) (Cert.Words.chunks_le n hn)
  rw [← token_toInt k.val hk j, ← select_slt, ← scale_eq, ← neg_inf_eq]
  unfold k0_pay10
  dsimp only
  generalize Scalar.muli _ _ = w
  pointwise

/-- The greatest score after a chunk. -/
theorem pay11 (n : Elt Ideal .i32) (q : FVec Ideal S392x128 .bf16) (k : Fin (k0_t1_loop n).trips) (m : FVec Ideal S392x1 .f32)
    (x : Vec Ideal S1x1x256x128 .fp8e4m3) (s : Vec Ideal S1x1x1x1x256 .f32) (r : Fin 392) :
    (k0_pay11 n q 0#32 1#32 k m x s (ix2 r 0) : EReal)
      = max (m (ix2 r 0) : EReal) (Finset.univ.sup fun j : Fin 256 => (k0_pay10 n q 0#32 1#32 k x s (ix2 r j) : EReal)) := by
  rw [← fold_max]
  pointwise [k0_pay11]

/-- The denominator after a chunk. -/
theorem pay14 (n : Elt Ideal .i32) (q : FVec Ideal S392x128 .bf16) (k : Fin (k0_t1_loop n).trips) (m l : FVec Ideal S392x1 .f32)
    (x : Vec Ideal S1x1x256x128 .fp8e4m3) (s : Vec Ideal S1x1x1x1x256 .f32) (r : Fin 392) :
    (k0_pay14 n q 0#32 1#32 k m l x s (ix2 r 0) : EReal)
      = (l (ix2 r 0) : EReal) * Ideal.exp2 ((m (ix2 r 0) : EReal) - k0_pay11 n q 0#32 1#32 k m x s (ix2 r 0))
        + ∑ j : Fin 256, Ideal.exp2 ((k0_pay10 n q 0#32 1#32 k x s (ix2 r j) : EReal) - k0_pay11 n q 0#32 1#32 k m x s (ix2 r 0)) := by
  pointwise [k0_pay14, k0_pay12, k0_pay13]
  rfl

/-- The weighted sum of values after a chunk. -/
theorem pay6 (n : Elt Ideal .i32) (q : FVec Ideal S392x128 .bf16) (k : Fin (k0_t1_loop n).trips) (m : FVec Ideal S392x1 .f32)
    (o : FVec Ideal S392x128 .f32) (x : Vec Ideal S1x1x256x128 .fp8e4m3) (s : Vec Ideal S1x1x1x1x256 .f32)
    (v : Vec Ideal S1x1x256x128 .fp8e4m3) (u : Vec Ideal S1x1x1x1x256 .f32) (r : Fin 392) (d : Fin 128) :
    (k0_pay6 o (k0_pay9 v) (k0_pay12 n q 0#32 1#32 k m x s) (k0_pay13 n q 0#32 1#32 k m x s) u (ix2 r d) : EReal)
      = (o (ix2 r d) : EReal) * Ideal.exp2 ((m (ix2 r 0) : EReal) - k0_pay11 n q 0#32 1#32 k m x s (ix2 r 0))
        + ∑ j : Fin 256, Ideal.exp2 ((k0_pay10 n q 0#32 1#32 k x s (ix2 r j) : EReal) - k0_pay11 n q 0#32 1#32 k m x s (ix2 r 0))
            * ((u (ix5 0 0 0 0 j) : EReal) * v (ix4 0 0 j d)) := by
  pointwise [k0_pay6, k0_pay12, k0_pay13, k0_pay9]
  simp only [mul_assoc]
  rfl

/-- The draft scores before the bias. -/
theorem pay38 (q : FVec Ideal S392x128 .bf16) (s : FVec Ideal S56x1 .f32) (x : FVec Ideal S56x128 .fp8e4m3) (r : Fin 392) (j : Fin 56) :
    (k0_pay38 q s x (ix2 r j) : EReal) = (∑ d : Fin 128, (q (ix2 r d) : EReal) * x (ix2 j d)) * ((s (ix2 j 0) : EReal) * c) := by
  rw [← scale_eq]
  pointwise [k0_pay38, k0_pay34]

/-- The draft scores with the mask: -∞ where the mask's entry is not positive. -/
theorem pay1 (a b : FVec Ideal S392x56 .f32) (r : Fin 392) (j : Fin 56) :
    (k0_pay1 a b (ix2 r j) : EReal) = (a (ix2 r j) : EReal) + if (0 : EReal) < b (ix2 r j) then 0 else ⊥ := by
  rw [← neg_inf_eq]
  pointwise [k0_pay1]

/-- The greatest draft score. -/
theorem pay2 (a b : FVec Ideal S392x56 .f32) (r : Fin 392) :
    (k0_pay2 a b (ix2 r 0) : EReal) = Finset.univ.sup fun j : Fin 56 => (k0_pay1 a b (ix2 r j) : EReal) := by
  rw [← fold_max]
  pointwise [k0_pay2]

/-- The draft tokens' denominator. -/
theorem pay4 (a b : FVec Ideal S392x56 .f32) (r : Fin 392) :
    (k0_pay4 a b (ix2 r 0) : EReal) = ∑ j : Fin 56, Ideal.exp2 ((k0_pay1 a b (ix2 r j) : EReal) - k0_pay2 a b (ix2 r 0)) := by
  pointwise [k0_pay4, k0_pay3]
  rfl

/-- The draft tokens' weighted sum of values. -/
theorem pay5 (x : FVec Ideal S56x128 .fp8e4m3) (s : FVec Ideal S56x1 .f32) (a b : FVec Ideal S392x56 .f32) (r : Fin 392) (d : Fin 128) :
    (k0_pay5 x (k0_pay35 s) a b (ix2 r d) : EReal)
      = ∑ j : Fin 56, Ideal.exp2 ((k0_pay1 a b (ix2 r j) : EReal) - k0_pay2 a b (ix2 r 0)) * ((s (ix2 j 0) : EReal) * x (ix2 j d)) := by
  pointwise [k0_pay5, k0_pay35, k0_pay3]
  simp only [mul_assoc]
  rfl

/-- The stored result. -/
theorem pay8 (l : FVec Ideal S392x1 .f32) (o : FVec Ideal S392x128 .f32) (r : Fin 392) (d : Fin 128) :
    (k0_pay8 l o (ix4 0 0 r d) : EReal) = Ideal.div (o (ix2 r d)) (l (ix2 r 0)) := by
  pointwise [k0_pay8]

/-- The query block as a matrix. -/
theorem pay21 (x : Vec Ideal S1x1x392x128 .bf16) (r : Fin 392) (d : Fin 128) : k0_pay21 x (ix2 r d) = x (ix4 0 0 r d) := by
  pointwise [k0_pay21]

end Cert.KernelIdeal.Payload

end
-- ==== Proof.Softmax.lean ====
/- The arithmetic of a softmax taken chunk by chunk, on extended reals: the running greatest score, the running sum of exponentials
   and the running weighted sum, each rescaled when the greatest score grows, are the sums over all scores seen so far taken at the
   last greatest score; and exponentials to base 2 of scores times `1 / log 2` are exponentials of the scores. -/
module

public import Idealize.ShloMosaic.PureOps.Ideal

@[expose] public section

noncomputable section

namespace Cert.Softmax

open Idealize.ShloMosaic

/-- An exponential is not negative. -/
theorem exp2_nonneg (x : EReal) : 0 ≤ Ideal.exp2 x := by
  induction x with
  | bot => simp
  | top => simp
  | coe r => rw [Ideal.exp2_coe]; exact_mod_cast Real.rpow_nonneg (by norm_num) r

/-- The exponential of a difference that is not positive is finite. -/
theorem exp2_sub_ne_top {m m' : EReal} (h : m ≤ m') : Ideal.exp2 (m - m') ≠ ⊤ := by
  induction m with
  | bot => simp
  | top => obtain rfl := top_le_iff.1 h; simp
  | coe r =>
    induction m' with
    | bot => simp at h
    | top => simp
    | coe r' => rw [← EReal.coe_sub, Ideal.exp2_coe]; exact EReal.coe_ne_top _

/-- Two steps of rescaling are one. -/
theorem exp2_sub_mul {s m m' : EReal} (h : s ≤ m) (h' : m ≤ m') :
    Ideal.exp2 (s - m) * Ideal.exp2 (m - m') = Ideal.exp2 (s - m') := by
  induction s with
  | bot => simp
  | top => obtain rfl := top_le_iff.1 h; obtain rfl := top_le_iff.1 h'; simp
  | coe s =>
    induction m with
    | bot => simp at h
    | top => obtain rfl := top_le_iff.1 h'; simp
    | coe m =>
      induction m' with
      | bot => simp at h'
      | top => simp
      | coe m' =>
        rw [← EReal.coe_sub, ← EReal.coe_sub, ← EReal.coe_sub, Ideal.exp2_coe, Ideal.exp2_coe, Ideal.exp2_coe, ← EReal.coe_mul]
        congr 1
        show (2 : ℝ) ^ (s - m) * (2 : ℝ) ^ (m - m') = (2 : ℝ) ^ (s - m')
        rw [← Real.rpow_add (by norm_num)]; congr 1; ring

/-- A factor that is not negative and finite goes into a sum. -/
theorem sum_mul_of_nonneg {ι : Type*} (S : Finset ι) (f : ι → EReal) {a : EReal} (h : 0 ≤ a) (h' : a ≠ ⊤) :
    (∑ i ∈ S, f i) * a = ∑ i ∈ S, f i * a := by
  classical
  induction S using Finset.induction_on with
  | empty => simp
  | insert i S hi ih => rw [Finset.sum_insert hi, Finset.sum_insert hi, EReal.right_distrib_of_nonneg_of_ne_top h h', ih]

/-- A weighted sum of exponentials taken at `m`, rescaled, is the sum taken at `m'`. -/
theorem rescale {ι : Type*} (S : Finset ι) (x w : ι → EReal) {m m' : EReal} (hx : ∀ i ∈ S, x i ≤ m) (h : m ≤ m') :
    (∑ i ∈ S, Ideal.exp2 (x i - m) * w i) * Ideal.exp2 (m - m') = ∑ i ∈ S, Ideal.exp2 (x i - m') * w i := by
  rw [sum_mul_of_nonneg S _ (exp2_nonneg _) (exp2_sub_ne_top h)]
  refine Finset.sum_congr rfl fun i hi => ?_
  rw [mul_right_comm, exp2_sub_mul (hx i hi) h]

variable {J : ℕ} (b : Fin J → EReal) (s : ℕ → EReal)

/-- The greatest of the draft scores and of the first `n` cached scores. -/
def top (n : ℕ) : EReal := max (Finset.univ.sup b) ((Finset.range n).sup s)

/-- The weighted sum of the exponentials of the draft scores and of the first `n` cached scores, taken at `m`. -/
def acc (wb : Fin J → EReal) (w : ℕ → EReal) (n : ℕ) (m : EReal) : EReal :=
  (∑ j, Ideal.exp2 (b j - m) * wb j) + ∑ t ∈ Finset.range n, Ideal.exp2 (s t - m) * w t

/-- No draft score exceeds the greatest. -/
theorem le_top_b (n : ℕ) (j : Fin J) : b j ≤ top b s n := le_trans (Finset.le_sup (Finset.mem_univ j)) (le_max_left _ _)
/-- No cached score among the first `n` exceeds the greatest. -/
theorem le_top_s (n t : ℕ) (h : t < n) : s t ≤ top b s n := le_trans (Finset.le_sup (f := s) (Finset.mem_range.2 h)) (le_max_right _ _)

/-- The greatest score after one more chunk of `c`. -/
theorem top_add (n c : ℕ) : top b s (n + c) = max (top b s n) (Finset.univ.sup fun i : Fin c => s (n + i)) := by
  refine le_antisymm ?_ ?_
  · refine max_le (le_trans (le_max_left _ _) (le_max_left _ _)) (Finset.sup_le fun t ht => ?_)
    rcases lt_or_ge t n with h | h
    · exact le_trans (le_top_s b s n t h) (le_max_left _ _)
    · have ht' := Finset.mem_range.1 ht
      refine le_trans ?_ (le_max_right _ _)
      have := Finset.le_sup (f := fun i : Fin c => s (n + i)) (Finset.mem_univ ⟨t - n, by omega⟩)
      simpa [Nat.add_sub_of_le h] using this
  · refine max_le (max_le (le_max_left _ _) (Finset.sup_le fun t ht => ?_)) (Finset.sup_le fun i _ => ?_)
    · exact le_top_s b s _ t (by have := Finset.mem_range.1 ht; omega)
    · exact le_top_s b s _ _ (by omega)

/-- One more chunk of `c`: the sum so far rescaled, and the chunk's own sum. -/
theorem acc_add (wb : Fin J → EReal) (w : ℕ → EReal) (n c : ℕ) :
    acc b s wb w n (top b s n) * Ideal.exp2 (top b s n - top b s (n + c))
      + ∑ i : Fin c, Ideal.exp2 (s (n + i) - top b s (n + c)) * w (n + i)
    = acc b s wb w (n + c) (top b s (n + c)) := by
  have hm : top b s n ≤ top b s (n + c) := by rw [top_add]; exact le_max_left _ _
  unfold acc
  rw [EReal.right_distrib_of_nonneg_of_ne_top (exp2_nonneg _) (exp2_sub_ne_top hm),
    rescale _ b wb (fun j _ => le_top_b b s n j) hm,
    rescale _ s w (fun t ht => le_top_s b s n t (Finset.mem_range.1 ht)) hm, Finset.sum_range_add,
    ← Fin.sum_univ_eq_sum_range (fun i => Ideal.exp2 (s (n + i) - top b s (n + c)) * w (n + i)) c, add_assoc]

/-- Scores past `n` that are all `⊥` add nothing to a sum, -/
theorem acc_of_bot (wb : Fin J → EReal) (w : ℕ → EReal) {n N : ℕ} (h : n ≤ N) (hs : ∀ t, n ≤ t → s t = ⊥) (m : EReal) :
    acc b s wb w n m = acc b s wb w N m := by
  unfold acc
  congr 1
  refine Finset.sum_subset (Finset.range_mono h) fun t _ ht => ?_
  rw [hs t (by simpa using ht)]; simp

/-- and do not move the greatest score. -/
theorem top_of_bot {n N : ℕ} (h : n ≤ N) (hs : ∀ t, n ≤ t → s t = ⊥) : top b s n = top b s N := by
  refine le_antisymm (max_le_max le_rfl (Finset.sup_mono (Finset.range_mono h))) (max_le (le_max_left _ _) (Finset.sup_le fun t _ => ?_))
  rcases lt_or_ge t n with h | h
  · exact le_top_s b s n t h
  · rw [hs t h]; exact bot_le

/-! ## From base 2 to base e -/

/-- `1 / log 2`. -/
abbrev κ : EReal := (((Real.log 2)⁻¹ : ℝ) : EReal)

/-- The scale `1 / log 2` is positive. -/
theorem κ_pos : (0 : ℝ) < (Real.log 2)⁻¹ := inv_pos.2 (Real.log_pos (by norm_num))

/-- Scaling scores by `1 / log 2` and taking powers of 2 is taking powers of e. -/
theorem exp2_mul_κ (x : EReal) : Ideal.exp2 (x * κ) = Ideal.exp x := by
  have h := κ_pos
  induction x with
  | bot => rw [EReal.bot_mul_coe_of_pos h]; rfl
  | top => rw [EReal.top_mul_coe_of_pos h]; rfl
  | coe r =>
    rw [← EReal.coe_mul, Ideal.exp2_coe]
    show (((2 : ℝ) ^ (r * (Real.log 2)⁻¹) : ℝ) : EReal) = ((Real.exp r : ℝ) : EReal)
    congr 1
    rw [Real.rpow_def_of_pos (by norm_num)]
    congr 1
    field_simp

/-- Scaling commutes with subtraction, at infinite scores too. -/
theorem sub_mul_κ (x y : EReal) : x * κ - y * κ = (x - y) * κ := by
  have h := κ_pos
  induction x with
  | bot => simp [EReal.bot_mul_coe_of_pos h]
  | top =>
    induction y with
    | bot => simp [EReal.bot_mul_coe_of_pos h, EReal.top_mul_coe_of_pos h]
    | top => simp [EReal.bot_mul_coe_of_pos h, EReal.top_mul_coe_of_pos h]
    | coe y => rw [EReal.top_mul_coe_of_pos h, ← EReal.coe_mul, EReal.top_sub_coe, EReal.top_sub_coe, EReal.top_mul_coe_of_pos h]
  | coe x =>
    induction y with
    | bot => rw [EReal.bot_mul_coe_of_pos h, ← EReal.coe_mul, EReal.coe_sub_bot, EReal.coe_sub_bot, EReal.top_mul_coe_of_pos h]
    | top => simp [EReal.bot_mul_coe_of_pos h, EReal.top_mul_coe_of_pos h]
    | coe y => rw [← EReal.coe_mul, ← EReal.coe_mul, ← EReal.coe_sub, ← EReal.coe_sub, ← EReal.coe_mul, sub_mul]

/-- Scaling keeps the order. -/
theorem mul_κ_le {x y : EReal} (h : x ≤ y) : x * κ ≤ y * κ := mul_le_mul_of_nonneg_right h (EReal.coe_nonneg.2 κ_pos.le)

/-- Scaling is monotone. -/
theorem mul_κ_mono : Monotone fun x : EReal => x * κ := fun _ _ h => mul_κ_le h

/-- The greatest of scaled scores is the greatest score scaled. -/
theorem sup_mul_κ {ι : Type*} (S : Finset ι) (f : ι → EReal) : (S.sup fun i => f i * κ) = S.sup f * κ := by
  refine (Finset.comp_sup_eq_sup_comp (fun x : EReal => x * κ) (fun x y => mul_κ_mono.map_max) ?_).symm
  exact EReal.bot_mul_coe_of_pos κ_pos

/-- The greatest scaled score. -/
theorem top_mul_κ (n : ℕ) : top (fun j => b j * κ) (fun t => s t * κ) n = top b s n * κ := by
  unfold top
  rw [sup_mul_κ, sup_mul_κ, ← mul_κ_mono.map_max]

/-- The sums at the scaled scores are the sums of powers of e. -/
theorem acc_mul_κ (wb : Fin J → EReal) (w : ℕ → EReal) (n : ℕ) (m : EReal) :
    acc (fun j => b j * κ) (fun t => s t * κ) wb w n (m * κ)
      = (∑ j, Ideal.exp (b j - m) * wb j) + ∑ t ∈ Finset.range n, Ideal.exp (s t - m) * w t := by
  unfold acc
  simp only [sub_mul_κ, exp2_mul_κ]

end Cert.Softmax

end
-- ==== Proof.Point.lean ====
/- What the kernel's body leaves in its blocks at one grid point, over the extended reals: the counted loop over the cached chunks by
   induction on the trip, then the output block. -/
module

public import proofs.«01_k».proof.Proof.Payload
public import proofs.«01_k».proof.Proof.Softmax

@[expose] public section

set_option maxRecDepth 16384

noncomputable section

namespace Cert.KernelIdeal.Point

open Idealize.ShloMosaic Idealize.SL.Sem Idealize.ShloMosaic.Pipeline Cert.KernelIdeal Cert.KernelIdeal.Gen Cert.KernelIdeal.Payload
open Cert.Softmax (top acc)

/-- Chunk `k` of the cached codes. -/
abbrev codes (n : Elt Ideal .i32) (hw : k0_chk1 n) (x : Vec Ideal S1x1x3840x128 .fp8e4m3) (k : Fin (k0_t1_loop n).trips) : Vec Ideal S1x1x256x128 .fp8e4m3 :=
  View.ld x (Rect.unit (s := S1x1x3840x128) (k0_off2 n k) S1x1x256x128.size (k0_off2_inb n hw k))

/-- Chunk `k` of the cached scales. -/
abbrev scales (n : Elt Ideal .i32) (hw : k0_chk1 n) (x : Vec Ideal S1x1x15x1x256 .f32) (k : Fin (k0_t1_loop n).trips) : Vec Ideal S1x1x1x1x256 .f32 :=
  View.ld x (Rect.unit (s := S1x1x15x1x256) (k0_off3 n k) S1x1x1x1x256.size (k0_off3_inb n hw k))

/-- A code read through a rectangle whose corner is row `N`. -/
theorem codes_at (x : Vec Ideal S1x1x3840x128 .fp8e4m3) (off : Fin 4 → ℕ) (inb : ∀ a : Fin 4, off a + S1x1x256x128.size a ≤ S1x1x3840x128.size a)
    (k : ℕ) (e : off = ![0, 0, k * 256, 0]) (j : Fin 256) (d : Fin 128) (h : k * 256 + j.val < 3840) :
    View.ld x (Rect.unit (s := S1x1x3840x128) off S1x1x256x128.size inb) (ix4 0 0 j d) = x (ix4 0 0 ⟨k * 256 + j.val, h⟩ d) := by
  subst e
  generalize k * 256 = N at h inb ⊢
  refine View.ld_unit_apply_of _ _ _ _ _ _ fun a => ?_
  fin_cases a
  exacts [rfl, rfl, rfl, (Nat.zero_add _).symm]

/-- A scale read through a rectangle whose corner is chunk `k`. -/
theorem scales_at (x : Vec Ideal S1x1x15x1x256 .f32) (off : Fin 5 → ℕ) (inb : ∀ a : Fin 5, off a + S1x1x1x1x256.size a ≤ S1x1x15x1x256.size a)
    (k : Fin 15) (e : off = ![0, 0, k.val, 0, 0]) (j : Fin 256) :
    View.ld x (Rect.unit (s := S1x1x15x1x256) off S1x1x1x1x256.size inb) (ix5 0 0 0 0 j) = x (ix5 0 0 k 0 j) := by
  subst e
  refine View.ld_unit_apply_of _ _ _ _ _ _ fun a => ?_
  fin_cases a
  exacts [rfl, rfl, rfl, rfl, (Nat.zero_add _).symm]

/-- One code of a chunk. -/
theorem codes_apply (n : Elt Ideal .i32) (hn : n.toInt ≤ 3840) (hw : k0_chk1 n) (x : Vec Ideal S1x1x3840x128 .fp8e4m3)
    (k : Fin (k0_t1_loop n).trips) (j : Fin 256) (d : Fin 128) (h : k.val * 256 + j.val < 3840) :
    codes n hw x k (ix4 0 0 j d) = x (ix4 0 0 ⟨k.val * 256 + j.val, h⟩ d) := by
  exact codes_at x _ _ k.val (Words.off2 n hn k) j d h

/-- One scale of a chunk. -/
theorem scales_apply (n : Elt Ideal .i32) (hn : n.toInt ≤ 3840) (hw : k0_chk1 n) (x : Vec Ideal S1x1x15x1x256 .f32)
    (k : Fin (k0_t1_loop n).trips) (j : Fin 256) (h : k.val < 15) :
    scales n hw x k (ix5 0 0 0 0 j) = x (ix5 0 0 ⟨k.val, h⟩ 0 j) := by
  exact scales_at x _ _ ⟨k.val, h⟩ (Words.off3 n hn k) j

/-- One trip of the loop over the chunks. -/
theorem trip (c : Dev nD) (i : grid0.Coords) (arg2 : Memref sig .tc .smem S40 .i32) (harg2 : arg2.IsWhole) (arg3 : Memref sig .tc .vmem S1x1x392x128 .bf16) (harg3 : arg3.IsWhole) (arg4 : Memref sig .tc .vmem S1x1x56x128 .bf16) (harg4 : arg4.IsWhole) (arg5 : Memref sig .tc .vmem S1x1x56x128 .bf16) (harg5 : arg5.IsWhole) (arg6 : Memref sig .tc .vmem S1x1x3840x128 .fp8e4m3) (harg6 : arg6.IsWhole) (arg7 : Memref sig .tc .vmem S1x1x15x1x256 .f32) (harg7 : arg7.IsWhole) (arg8 : Memref sig .tc .vmem S1x1x3840x128 .fp8e4m3) (harg8 : arg8.IsWhole) (arg9 : Memref sig .tc .vmem S1x1x15x1x256 .f32) (harg9 : arg9.IsWhole) (arg10 : Memref sig .tc .vmem S392x56 .f32) (harg10 : arg10.IsWhole) (arg11 : Memref sig .tc .vmem S1x1x392x128 .bf16) (harg11 : arg11.IsWhole) (arg12 : Memref sig .tc .vmem S1x1x56x128 .fp8e4m3) (harg12 : arg12.IsWhole) (arg13 : Memref sig .tc .vmem S1x1x1x56 .f32) (harg13 : arg13.IsWhole) (arg14 : Memref sig .tc .vmem S1x1x56x128 .fp8e4m3) (harg14 : arg14.IsWhole) (arg15 : Memref sig .tc .vmem S1x1x1x56 .f32) (harg15 : arg15.IsWhole) (n : Elt Ideal .i32) (hw : k0_chk1 n) (q : FVec Ideal S392x128 .bf16) (x3 : Vec Ideal S1x1x3840x128 .fp8e4m3) (x4 : Vec Ideal S1x1x15x1x256 .f32) (x5 : Vec Ideal S1x1x3840x128 .fp8e4m3) (x6 : Vec Ideal S1x1x15x1x256 .f32)
    (k : Fin (k0_t1_loop n).trips) (a : FVec Ideal S392x1 .f32 × FVec Ideal S392x1 .f32 × FVec Ideal S392x128 .f32) :
    tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 n hw q (harg6.unread x3) (harg7.unread x4) (harg8.unread x5) (harg9.unread x6) k a
      = (k0_pay11 n q 0#32 1#32 k a.1 (codes n hw x3 k) (scales n hw x4 k),
         k0_pay14 n q 0#32 1#32 k a.1 a.2.1 (codes n hw x3 k) (scales n hw x4 k),
         k0_pay6 a.2.2 (k0_pay9 (codes n hw x5 k)) (k0_pay12 n q 0#32 1#32 k a.1 (codes n hw x3 k) (scales n hw x4 k))
           (k0_pay13 n q 0#32 1#32 k a.1 (codes n hw x3 k) (scales n hw x4 k)) (scales n hw x6 k)) := by
  unfold tripR_k0_t1 trip_k0_t1
  dsimp only
  sl_unfold_words
  simp only [View.readAt_eq_ld, Memref.IsWhole.read_unread]
  rfl

/-- The masked score of cached token `t` in row `r`: -∞ from the cached length on. -/
def score (n : BitVec 32) (q : FVec Ideal S392x128 .bf16) (x3 : Vec Ideal S1x1x3840x128 .fp8e4m3) (x4 : Vec Ideal S1x1x15x1x256 .f32) (r : Fin 392) (t : ℕ) : EReal :=
  if h : t < 3840 then
    if (t : ℤ) < n.toInt then
      (∑ d : Fin 128, (q (ix2 r d) : EReal) * x3 (ix4 0 0 ⟨t, h⟩ d)) * ((x4 (ix5 0 0 ⟨t / 256, by omega⟩ 0 ⟨t % 256, by omega⟩) : EReal) * c)
    else ⊥
  else ⊥

/-- Cached token `t`'s value at lane `d`, widened. -/
def value (x5 : Vec Ideal S1x1x3840x128 .fp8e4m3) (x6 : Vec Ideal S1x1x15x1x256 .f32) (d : Fin 128) (t : ℕ) : EReal :=
  if h : t < 3840 then (x6 (ix5 0 0 ⟨t / 256, by omega⟩ 0 ⟨t % 256, by omega⟩) : EReal) * x5 (ix4 0 0 ⟨t, h⟩ d) else 0

/-- A chunk's masked scores are the scores of its tokens. -/
theorem pay10_score (n : Elt Ideal .i32) (hn : n.toInt ≤ 3840) (hw : k0_chk1 n) (q : FVec Ideal S392x128 .bf16) (k : Fin (k0_t1_loop n).trips)
    (x3 : Vec Ideal S1x1x3840x128 .fp8e4m3) (x4 : Vec Ideal S1x1x15x1x256 .f32) (r : Fin 392) (j : Fin 256) :
    k0_pay10 n q 0#32 1#32 k (codes n hw x3 k) (scales n hw x4 k) (ix2 r j) = score n q x3 x4 r (k.val * 256 + j.val) := by
  have hk : k.val < 15 := lt_of_lt_of_le (Words.trips1 n hn ▸ k.isLt) (Cert.Words.chunks_le n hn)
  have hj := j.isLt
  have h : k.val * 256 + j.val < 3840 := by omega
  have e1 : (⟨(k.val * 256 + j.val) / 256, by omega⟩ : Fin 15) = ⟨k.val, hk⟩ := Fin.ext (show (k.val * 256 + j.val) / 256 = k.val by omega)
  have e2 : (⟨(k.val * 256 + j.val) % 256, by omega⟩ : Fin 256) = j := Fin.ext (show (k.val * 256 + j.val) % 256 = j.val by omega)
  rw [pay10 n hn, score, dif_pos h, e1, e2, scales_apply n hn hw x4 k j hk]
  simp only [codes_apply n hn hw x3 k j _ h]

/-- A chunk's widened values are the values of its tokens. -/
theorem value_chunk (n : Elt Ideal .i32) (hn : n.toInt ≤ 3840) (hw : k0_chk1 n) (k : Fin (k0_t1_loop n).trips)
    (x5 : Vec Ideal S1x1x3840x128 .fp8e4m3) (x6 : Vec Ideal S1x1x15x1x256 .f32) (d : Fin 128) (j : Fin 256) :
    (scales n hw x6 k (ix5 0 0 0 0 j) : EReal) * codes n hw x5 k (ix4 0 0 j d) = value x5 x6 d (k.val * 256 + j.val) := by
  have hk : k.val < 15 := lt_of_lt_of_le (Words.trips1 n hn ▸ k.isLt) (Cert.Words.chunks_le n hn)
  have hj := j.isLt
  have h : k.val * 256 + j.val < 3840 := by omega
  have e1 : (⟨(k.val * 256 + j.val) / 256, by omega⟩ : Fin 15) = ⟨k.val, hk⟩ := Fin.ext (show (k.val * 256 + j.val) / 256 = k.val by omega)
  have e2 : (⟨(k.val * 256 + j.val) % 256, by omega⟩ : Fin 256) = j := Fin.ext (show (k.val * 256 + j.val) % 256 = j.val by omega)
  rw [value, dif_pos h, e1, e2, scales_apply n hn hw x6 k j hk, codes_apply n hn hw x5 k j d h]

/-- What the loop carries in row `r` after `N` cached tokens: the greatest score, the denominator and the weighted sums. -/
def Carries (n : BitVec 32) (q : FVec Ideal S392x128 .bf16) (x3 : Vec Ideal S1x1x3840x128 .fp8e4m3) (x4 : Vec Ideal S1x1x15x1x256 .f32)
    (x5 : Vec Ideal S1x1x3840x128 .fp8e4m3) (x6 : Vec Ideal S1x1x15x1x256 .f32) (b : Fin 392 → Fin 56 → EReal) (wb : Fin 128 → Fin 56 → EReal)
    (N : ℕ) (a : FVec Ideal S392x1 .f32 × FVec Ideal S392x1 .f32 × FVec Ideal S392x128 .f32) : Prop :=
  ∀ r : Fin 392, (a.1 (ix2 r 0) : EReal) = top (b r) (score n q x3 x4 r) N
    ∧ (a.2.1 (ix2 r 0) : EReal) = acc (b r) (score n q x3 x4 r) (fun _ => 1) (fun _ => 1) N (top (b r) (score n q x3 x4 r) N)
    ∧ ∀ d : Fin 128, (a.2.2 (ix2 r d) : EReal) = acc (b r) (score n q x3 x4 r) (wb d) (value x5 x6 d) N (top (b r) (score n q x3 x4 r) N)

/-- The loop carries the sums over all tokens of the chunks it has gone through. -/
theorem loop (c : Dev nD) (i : grid0.Coords) (arg2 : Memref sig .tc .smem S40 .i32) (harg2 : arg2.IsWhole) (arg3 : Memref sig .tc .vmem S1x1x392x128 .bf16) (harg3 : arg3.IsWhole) (arg4 : Memref sig .tc .vmem S1x1x56x128 .bf16) (harg4 : arg4.IsWhole) (arg5 : Memref sig .tc .vmem S1x1x56x128 .bf16) (harg5 : arg5.IsWhole) (arg6 : Memref sig .tc .vmem S1x1x3840x128 .fp8e4m3) (harg6 : arg6.IsWhole) (arg7 : Memref sig .tc .vmem S1x1x15x1x256 .f32) (harg7 : arg7.IsWhole) (arg8 : Memref sig .tc .vmem S1x1x3840x128 .fp8e4m3) (harg8 : arg8.IsWhole) (arg9 : Memref sig .tc .vmem S1x1x15x1x256 .f32) (harg9 : arg9.IsWhole) (arg10 : Memref sig .tc .vmem S392x56 .f32) (harg10 : arg10.IsWhole) (arg11 : Memref sig .tc .vmem S1x1x392x128 .bf16) (harg11 : arg11.IsWhole) (arg12 : Memref sig .tc .vmem S1x1x56x128 .fp8e4m3) (harg12 : arg12.IsWhole) (arg13 : Memref sig .tc .vmem S1x1x1x56 .f32) (harg13 : arg13.IsWhole) (arg14 : Memref sig .tc .vmem S1x1x56x128 .fp8e4m3) (harg14 : arg14.IsWhole) (arg15 : Memref sig .tc .vmem S1x1x1x56 .f32) (harg15 : arg15.IsWhole) (n : Elt Ideal .i32) (hn : n.toInt ≤ 3840) (hw : k0_chk1 n) (q : FVec Ideal S392x128 .bf16) (x3 : Vec Ideal S1x1x3840x128 .fp8e4m3) (x4 : Vec Ideal S1x1x15x1x256 .f32) (x5 : Vec Ideal S1x1x3840x128 .fp8e4m3) (x6 : Vec Ideal S1x1x15x1x256 .f32)
    (b : Fin 392 → Fin 56 → EReal) (wb : Fin 128 → Fin 56 → EReal) (init : FVec Ideal S392x1 .f32 × FVec Ideal S392x1 .f32 × FVec Ideal S392x128 .f32)
    (h0 : Carries n q x3 x4 x5 x6 b wb 0 init) :
    ∀ k : ℕ, k ≤ (k0_t1_loop n).trips → Carries n q x3 x4 x5 x6 b wb (k * 256)
      (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 n hw q (harg6.unread x3) (harg7.unread x4) (harg8.unread x5) (harg9.unread x6) init k)
  | 0, _ => by rw [st_k0_t1_zero, Nat.zero_mul]; exact h0
  | k + 1, hk => by
    have ih := loop c i arg2 harg2 arg3 harg3 arg4 harg4 arg5 harg5 arg6 harg6 arg7 harg7 arg8 harg8 arg9 harg9 arg10 harg10 arg11 harg11 arg12 harg12 arg13 harg13 arg14 harg14 arg15 harg15 n hn hw q x3 x4 x5 x6 b wb init h0 k (by omega)
    rw [show k + 1 = (⟨k, hk⟩ : Fin (k0_t1_loop n).trips).val + 1 from rfl, st_k0_t1_succ, trip]
    generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 n hw q (harg6.unread x3) (harg7.unread x4) (harg8.unread x5) (harg9.unread x6) init (⟨k, hk⟩ : Fin (k0_t1_loop n).trips).val = a at ih ⊢
    intro r
    obtain ⟨hm, hl, ho⟩ := ih r
    have e11 : (k0_pay11 n q 0#32 1#32 ⟨k, hk⟩ a.1 (codes n hw x3 ⟨k, hk⟩) (scales n hw x4 ⟨k, hk⟩) (ix2 r 0) : EReal)
        = top (b r) (score n q x3 x4 r) (k * 256 + 256) := by
      rw [pay11, hm, Cert.Softmax.top_add]
      simp only [pay10_score n hn hw q]
    have eN : (k + 1) * 256 = k * 256 + 256 := by omega
    refine ⟨by rw [eN]; exact e11, ?_, fun d => ?_⟩
    · rw [eN]
      show (k0_pay14 n q 0#32 1#32 ⟨k, hk⟩ a.1 a.2.1 (codes n hw x3 ⟨k, hk⟩) (scales n hw x4 ⟨k, hk⟩) (ix2 r 0) : EReal) = _
      rw [pay14, e11, hm, hl, ← Cert.Softmax.acc_add]
      simp only [pay10_score n hn hw q, mul_one]
    · rw [eN]
      refine (pay6 n q ⟨k, hk⟩ a.1 a.2.2 (codes n hw x3 ⟨k, hk⟩) (scales n hw x4 ⟨k, hk⟩) (codes n hw x5 ⟨k, hk⟩) (scales n hw x6 ⟨k, hk⟩) r d).trans ?_
      rw [e11, hm, ho d, ← Cert.Softmax.acc_add]
      simp only [pay10_score n hn hw q, value_chunk n hn hw]

end Cert.KernelIdeal.Point

end
-- ==== Proof.Out.lean ====
/- The blocks the kernel's body leaves at one grid point, over the extended reals, from the blocks it is given. -/
module

public import proofs.«01_k».proof.Proof.Point

@[expose] public section

set_option maxRecDepth 16384

noncomputable section

namespace Cert.KernelIdeal.Out

open Idealize.ShloMosaic Idealize.SL.Sem Idealize.ShloMosaic.Pipeline Cert.KernelIdeal Cert.KernelIdeal.Gen Cert.KernelIdeal.Payload Cert.KernelIdeal.Point
open Cert.Softmax (top acc)

/-- The draft keys' codes. -/
abbrev kcode (x : Vec Ideal S1x1x56x128 .bf16) : FVec Ideal S56x128 .fp8e4m3 := k0_pay26 (k0_pay22 x) (k0_pay25 x)

/-- The draft values' codes. -/
abbrev vcode (x : Vec Ideal S1x1x56x128 .bf16) : FVec Ideal S56x128 .fp8e4m3 := k0_pay31 (k0_pay27 x) (k0_pay30 x)

/-- What the loop starts from: the draft tokens alone. -/
abbrev start (x0 : Vec Ideal S1x1x392x128 .bf16) (x1 x2 : Vec Ideal S1x1x56x128 .bf16) (x7 : Vec Ideal S392x56 .f32) :
    FVec Ideal S392x1 .f32 × FVec Ideal S392x1 .f32 × FVec Ideal S392x128 .f32 :=
  (k0_pay2 (k0_pay38 (k0_pay21 x0) (k0_pay24 x1) (kcode x1)) x7,
   k0_pay4 (k0_pay38 (k0_pay21 x0) (k0_pay24 x1) (kcode x1)) x7,
   k0_pay5 (vcode x2) (k0_pay35 (k0_pay29 x2)) (k0_pay38 (k0_pay21 x0) (k0_pay24 x1) (kcode x1)) x7)

/-- The output block: the loop's last state, divided. -/
theorem out8_eq (c : Dev nD) (i : grid0.Coords) (arg3 : Memref sig .tc .vmem S1x1x392x128 .bf16) (harg3 : arg3.IsWhole) (arg4 : Memref sig .tc .vmem S1x1x56x128 .bf16) (harg4 : arg4.IsWhole) (arg5 : Memref sig .tc .vmem S1x1x56x128 .bf16) (harg5 : arg5.IsWhole) (arg6 : Memref sig .tc .vmem S1x1x3840x128 .fp8e4m3) (harg6 : arg6.IsWhole) (arg7 : Memref sig .tc .vmem S1x1x15x1x256 .f32) (harg7 : arg7.IsWhole) (arg8 : Memref sig .tc .vmem S1x1x3840x128 .fp8e4m3) (harg8 : arg8.IsWhole) (arg9 : Memref sig .tc .vmem S1x1x15x1x256 .f32) (harg9 : arg9.IsWhole) (arg10 : Memref sig .tc .vmem S392x56 .f32) (harg10 : arg10.IsWhole) (arg11 : Memref sig .tc .vmem S1x1x392x128 .bf16) (harg11 : arg11.IsWhole) (arg12 : Memref sig .tc .vmem S1x1x56x128 .fp8e4m3) (harg12 : arg12.IsWhole) (arg13 : Memref sig .tc .vmem S1x1x1x56 .f32) (harg13 : arg13.IsWhole) (arg14 : Memref sig .tc .vmem S1x1x56x128 .fp8e4m3) (harg14 : arg14.IsWhole) (arg15 : Memref sig .tc .vmem S1x1x1x56 .f32) (harg15 : arg15.IsWhole) (x0 : Vec Ideal S1x1x392x128 .bf16) (x1 : Vec Ideal S1x1x56x128 .bf16) (x2 : Vec Ideal S1x1x56x128 .bf16) (x3 : Vec Ideal S1x1x3840x128 .fp8e4m3) (x4 : Vec Ideal S1x1x15x1x256 .f32) (x5 : Vec Ideal S1x1x3840x128 .fp8e4m3) (x6 : Vec Ideal S1x1x15x1x256 .f32) (x7 : Vec Ideal S392x56 .f32) (xt0 : TbBuf0 (F := Ideal) c tbM0_0) (k0_hw1 : k0_chk1 (tbM0_0.view.readAt (Elt Ideal) (Rect.unit (s := S40) (k0_off1 i) S1.size (k0_off1_inb i)).toLoadRect xt0 (Shape.Idx.first (numel1_S1.symm ▸ Nat.one_pos)))) :
    out0_A_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1
      = k0_pay8 (st_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (tbM0_0.view.readAt (Elt Ideal) (Rect.unit (s := S40) (k0_off1 i) S1.size (k0_off1_inb i)).toLoadRect xt0 (Shape.Idx.first (numel1_S1.symm ▸ Nat.one_pos))) k0_hw1 (k0_pay21 x0) (harg6.unread x3) (harg7.unread x4) (harg8.unread x5) (harg9.unread x6) (start x0 x1 x2 x7) (k0_t1_loop (tbM0_0.view.readAt (Elt Ideal) (Rect.unit (s := S40) (k0_off1 i) S1.size (k0_off1_inb i)).toLoadRect xt0 (Shape.Idx.first (numel1_S1.symm ▸ Nat.one_pos)))).trips).2.1
          (st_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (tbM0_0.view.readAt (Elt Ideal) (Rect.unit (s := S40) (k0_off1 i) S1.size (k0_off1_inb i)).toLoadRect xt0 (Shape.Idx.first (numel1_S1.symm ▸ Nat.one_pos))) k0_hw1 (k0_pay21 x0) (harg6.unread x3) (harg7.unread x4) (harg8.unread x5) (harg9.unread x6) (start x0 x1 x2 x7) (k0_t1_loop (tbM0_0.view.readAt (Elt Ideal) (Rect.unit (s := S40) (k0_off1 i) S1.size (k0_off1_inb i)).toLoadRect xt0 (Shape.Idx.first (numel1_S1.symm ▸ Nat.one_pos)))).trips).2.2 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1)]
  unfold kernelRun0_A
  dsimp only
  sl_unfold_words
  rw [View.canon_unit_zero (by decide)]
  simp (disch := decide) only [View.readAt_eq_ld, Memref.IsWhole.read_unread, View.ld_unit_lit']
  simp only [Scf.rem_trips]
  simp only [st_k0_t2_zero]

/-- A row's draft scores with the mask. -/
def draft (x0 : Vec Ideal S1x1x392x128 .bf16) (x1 : Vec Ideal S1x1x56x128 .bf16) (x7 : Vec Ideal S392x56 .f32) (r : Fin 392) (j : Fin 56) : EReal :=
  (∑ d : Fin 128, (x0 (ix4 0 0 r d) : EReal) * kcode x1 (ix2 j d)) * ((k0_pay24 x1 (ix2 j 0) : EReal) * Payload.c)
    + if (0 : EReal) < x7 (ix2 r j) then 0 else ⊥

/-- A draft token's value, widened. -/
def draftValue (x2 : Vec Ideal S1x1x56x128 .bf16) (d : Fin 128) (j : Fin 56) : EReal :=
  (k0_pay29 x2 (ix2 j 0) : EReal) * vcode x2 (ix2 j d)

/-- The loop starts with the sums over the draft tokens. -/
theorem start_carries (n : BitVec 32) (x0 : Vec Ideal S1x1x392x128 .bf16) (x1 x2 : Vec Ideal S1x1x56x128 .bf16) (x3 : Vec Ideal S1x1x3840x128 .fp8e4m3)
    (x4 : Vec Ideal S1x1x15x1x256 .f32) (x5 : Vec Ideal S1x1x3840x128 .fp8e4m3) (x6 : Vec Ideal S1x1x15x1x256 .f32) (x7 : Vec Ideal S392x56 .f32) :
    Carries n (k0_pay21 x0) x3 x4 x5 x6 (draft x0 x1 x7) (draftValue x2) 0 (start x0 x1 x2 x7) := by
  intro r
  dsimp only [start]
  have e : ∀ j : Fin 56, (k0_pay1 (k0_pay38 (k0_pay21 x0) (k0_pay24 x1) (kcode x1)) x7 (ix2 r j) : EReal) = draft x0 x1 x7 r j := fun j => by
    rw [pay1, pay38, draft]; simp only [pay21]
  have em : (k0_pay2 (k0_pay38 (k0_pay21 x0) (k0_pay24 x1) (kcode x1)) x7 (ix2 r 0) : EReal) = top (draft x0 x1 x7 r) (score n (k0_pay21 x0) x3 x4 r) 0 := by
    rw [pay2]; simp only [e]; simp [top]
  refine ⟨by exact em, ?_, fun d => ?_⟩
  · refine (pay4 _ _ r).trans ?_
    rw [em]; simp only [e, acc, mul_one, Finset.range_zero, Finset.sum_empty, add_zero]
  · refine (pay5 _ _ _ _ r d).trans ?_
    rw [em]; simp only [e, acc, draftValue, Finset.range_zero, Finset.sum_empty, add_zero]

/-- No token from `chunks n` chunks on has a score. -/
theorem score_bot (n : BitVec 32) (q : FVec Ideal S392x128 .bf16) (x3 : Vec Ideal S1x1x3840x128 .fp8e4m3) (x4 : Vec Ideal S1x1x15x1x256 .f32) (r : Fin 392)
    (t : ℕ) (h : Cert.Words.chunks n * 256 ≤ t) : score n q x3 x4 r t = ⊥ := by
  unfold score
  split
  · rw [if_neg]
    intro hlt
    unfold Cert.Words.chunks at h
    rw [Int.tdiv_eq_ediv_of_nonneg (by omega)] at h
    omega
  · rfl

/-- The output block at a row and lane: the weighted sum of all values over the sum of all weights, each weight the exponential (to base 2)
    of a score less the row's greatest. -/
theorem out8 (c : Dev nD) (i : grid0.Coords) (arg3 : Memref sig .tc .vmem S1x1x392x128 .bf16) (harg3 : arg3.IsWhole) (arg4 : Memref sig .tc .vmem S1x1x56x128 .bf16) (harg4 : arg4.IsWhole) (arg5 : Memref sig .tc .vmem S1x1x56x128 .bf16) (harg5 : arg5.IsWhole) (arg6 : Memref sig .tc .vmem S1x1x3840x128 .fp8e4m3) (harg6 : arg6.IsWhole) (arg7 : Memref sig .tc .vmem S1x1x15x1x256 .f32) (harg7 : arg7.IsWhole) (arg8 : Memref sig .tc .vmem S1x1x3840x128 .fp8e4m3) (harg8 : arg8.IsWhole) (arg9 : Memref sig .tc .vmem S1x1x15x1x256 .f32) (harg9 : arg9.IsWhole) (arg10 : Memref sig .tc .vmem S392x56 .f32) (harg10 : arg10.IsWhole) (arg11 : Memref sig .tc .vmem S1x1x392x128 .bf16) (harg11 : arg11.IsWhole) (arg12 : Memref sig .tc .vmem S1x1x56x128 .fp8e4m3) (harg12 : arg12.IsWhole) (arg13 : Memref sig .tc .vmem S1x1x1x56 .f32) (harg13 : arg13.IsWhole) (arg14 : Memref sig .tc .vmem S1x1x56x128 .fp8e4m3) (harg14 : arg14.IsWhole) (arg15 : Memref sig .tc .vmem S1x1x1x56 .f32) (harg15 : arg15.IsWhole) (x0 : Vec Ideal S1x1x392x128 .bf16) (x1 : Vec Ideal S1x1x56x128 .bf16) (x2 : Vec Ideal S1x1x56x128 .bf16) (x3 : Vec Ideal S1x1x3840x128 .fp8e4m3) (x4 : Vec Ideal S1x1x15x1x256 .f32) (x5 : Vec Ideal S1x1x3840x128 .fp8e4m3) (x6 : Vec Ideal S1x1x15x1x256 .f32) (x7 : Vec Ideal S392x56 .f32) (xt0 : TbBuf0 (F := Ideal) c tbM0_0) (k0_hw1 : k0_chk1 (tbM0_0.view.readAt (Elt Ideal) (Rect.unit (s := S40) (k0_off1 i) S1.size (k0_off1_inb i)).toLoadRect xt0 (Shape.Idx.first (numel1_S1.symm ▸ Nat.one_pos)))) (n : BitVec 32) (en : (tbM0_0.view.readAt (Elt Ideal) (Rect.unit (s := S40) (k0_off1 i) S1.size (k0_off1_inb i)).toLoadRect xt0 (Shape.Idx.first (numel1_S1.symm ▸ Nat.one_pos))) = n) (hn : n.toInt ≤ 3840) (r : Fin 392) (d : Fin 128) :
    (out0_A_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 (ix4 0 0 r d) : EReal)
      = Ideal.div
          (acc (draft x0 x1 x7 r) (score n (k0_pay21 x0) x3 x4 r) (draftValue x2 d) (value x5 x6 d) 3840 (top (draft x0 x1 x7 r) (score n (k0_pay21 x0) x3 x4 r) 3840))
          (acc (draft x0 x1 x7 r) (score n (k0_pay21 x0) x3 x4 r) (fun _ => 1) (fun _ => 1) 3840 (top (draft x0 x1 x7 r) (score n (k0_pay21 x0) x3 x4 r) 3840)) := by
  have hn' := hn
  rw [← en] at hn'
  rw [out8_eq, pay8]
  have h := loop c i tbM0_0 htbM0_0 arg3 harg3 arg4 harg4 arg5 harg5 arg6 harg6 arg7 harg7 arg8 harg8 arg9 harg9 arg10 harg10 arg11 harg11 arg12 harg12 arg13 harg13 arg14 harg14 arg15 harg15 _ hn' k0_hw1 (k0_pay21 x0) x3 x4 x5 x6 (draft x0 x1 x7) (draftValue x2) (start x0 x1 x2 x7)
    (start_carries _ x0 x1 x2 x3 x4 x5 x6 x7) _ le_rfl r
  rw [h.2.1, h.2.2 d, Words.trips1 _ hn', en]
  have hc := Cert.Words.chunks_le n hn
  have hb := fun t ht => score_bot n (k0_pay21 x0) x3 x4 r t ht
  rw [Cert.Softmax.top_of_bot _ _ (show Cert.Words.chunks n * 256 ≤ 3840 by omega) hb,
    Cert.Softmax.acc_of_bot _ _ _ _ (show Cert.Words.chunks n * 256 ≤ 3840 by omega) hb,
    Cert.Softmax.acc_of_bot _ _ _ _ (show Cert.Words.chunks n * 256 ≤ 3840 by omega) hb]

end Cert.KernelIdeal.Out

end
-- ==== Proof.Scale.lean ====
/- The power-of-two scale of a row: the exponent field found by counting the powers of two below a number, and the
   floor of its logarithm. -/
module

public import Idealize.ShloMosaic.Lib.Pipeline.ValueKit

@[expose] public section

set_option maxRecDepth 16384

noncomputable section

namespace Cert.Scale

open Idealize.ShloMosaic

/-- The number of the word whose exponent field is `i`. -/
abbrev pow (i : Fin 256) : EReal := Ideal.ofBits .f32 (IntOp.shli .vector (BitVec.ofNat 32 i) 23#32)

/-- The greatest field whose number is at most `y`. -/
abbrev field (y : EReal) : BitVec 32 :=
  Finset.fold IntOp.maxsi 2147483648#32 (fun i : Fin 256 => if y < pow i then 0#32 else BitVec.ofNat 32 i) Finset.univ

/-- The exponent of the scale: the field less 126, zero where the field is zero. -/
abbrev exponent (y : EReal) : BitVec 32 :=
  Scalar.select (IntOp.cmpi .eq (field y) 0#32) 0#32 (IntOp.subi (field y) 126#32)

/-- A word shifted into the exponent field: its sign, exponent and fraction. -/
theorem parts : ∀ i : Fin 256, let b := IntOp.shli .vector (BitVec.ofNat 32 i) 23#32
    (b.extractLsb' (8 + 23) 1 == 1#1) = false ∧ (b.extractLsb' 23 8).toNat = i ∧ (b.extractLsb' 0 23).toNat = 0 := by
  decide +kernel

/-- A pattern with fraction zero and a normal exponent field is a power of two. -/
theorem ieee_eq (b : BitVec 32) (n : ℕ) (e1 : (b.extractLsb' (8 + 23) 1 == 1#1) = false) (e2 : (b.extractLsb' 23 8).toNat = n)
    (e3 : (b.extractLsb' 0 23).toNat = 0) (h1 : 1 ≤ n) (h2 : n ≤ 254) : Ideal.ieee 8 23 b = (((2 : ℝ) ^ ((n : ℤ) - 127) : ℝ) : EReal) := by
  unfold Ideal.ieee
  rw [e1, e2, e3]
  dsimp only
  rw [if_neg (by omega), if_neg (by omega)]
  congr 1
  rw [show ((n : ℤ) - (2 ^ (8 - 1) - 1) - (23 : ℕ)) = ((n : ℤ) - 127) + (-23) by norm_num; ring, zpow_add₀ (by norm_num)]
  simp
  field_simp
  norm_num

/-- The number of a normal word with fraction zero is a power of two. -/
theorem pow_eq (i : Fin 256) (h1 : 1 ≤ (i : ℕ)) (h2 : (i : ℕ) ≤ 254) : pow i = (((2 : ℝ) ^ ((i : ℤ) - 127) : ℝ) : EReal) :=
  ieee_eq _ i (parts i).1 (parts i).2.1 (parts i).2.2 h1 h2

/-- The last field's number is +∞. -/
theorem pow_last : pow 255 = ⊤ := by
  obtain ⟨e1, e2, e3⟩ := parts 255
  simp only [pow, Ideal.ofBits, Ideal.ieee]
  rw [e1, e2, e3]
  simp

/-- The signed maximum, read as an integer. -/
theorem maxsi_toInt (a b : BitVec 32) : (IntOp.maxsi a b).toInt = max a.toInt b.toInt := by
  simp only [IntOp.maxsi, BitVec.slt]
  split <;> simp_all <;> omega

/-- The field is `n` where every entry is at most `n` and one is `n`. -/
theorem field_of (y : EReal) (n : Fin 256) (hn : (if y < pow n then 0#32 else BitVec.ofNat 32 n) = BitVec.ofNat 32 n)
    (h : ∀ i : Fin 256, n < i → y < pow i) : field y = BitVec.ofNat 32 n := by
  have small : ∀ i : Fin 256, (BitVec.ofNat 32 i).toInt = (i : ℕ) := by decide +kernel
  apply BitVec.eq_of_toInt_eq
  rw [field, ← Finset.fold_hom (op' := max) (m := BitVec.toInt) maxsi_toInt, small n]
  apply le_antisymm
  · rw [Finset.fold_max_le]
    refine ⟨?_, fun i _ => ?_⟩
    · rw [show (2147483648#32).toInt = -2147483648 from by decide]; omega
    · show BitVec.toInt (if y < pow i then 0#32 else BitVec.ofNat 32 i) ≤ _
      split
      · simp
      · rename_i hi
        rw [small]
        have := fun hlt => hi (h i hlt)
        have : i ≤ n := not_lt.1 this
        exact_mod_cast this
  · rw [Finset.le_fold_max]
    exact .inr ⟨n, Finset.mem_univ _, by show _ ≤ BitVec.toInt (if y < pow n then 0#32 else BitVec.ofNat 32 n); rw [hn, small]⟩

/-- A number below every normal one has field zero. -/
theorem field_small (r : ℝ) (h : r < (2 : ℝ) ^ (-126 : ℤ)) : field r = 0#32 := by
  refine field_of r 0 (by simp) fun i hi => ?_
  by_cases hl : i = 255
  · rw [hl, pow_last]; exact EReal.coe_lt_top r
  · have h1 : 1 ≤ (i : ℕ) := hi
    have h2 : (i : ℕ) ≤ 254 := by have := i.isLt; have : (i : ℕ) ≠ 255 := fun e => hl (Fin.ext e); omega
    rw [pow_eq i h1 h2]
    exact EReal.coe_lt_coe_iff.2 (h.trans_le (zpow_le_zpow_right₀ (by norm_num) (by omega)))

/-- A number in `[2^(n-127), 2^(n-126))` has field `n`. -/
theorem field_normal (r : ℝ) (n : Fin 256) (h1 : 1 ≤ (n : ℕ)) (h2 : (n : ℕ) ≤ 254) (lo : (2 : ℝ) ^ ((n : ℤ) - 127) ≤ r)
    (hi : r < (2 : ℝ) ^ ((n : ℤ) - 126)) : field r = BitVec.ofNat 32 n := by
  refine field_of r n (if_neg ?_) fun i hlt => ?_
  · rw [pow_eq n h1 h2, not_lt]; exact EReal.coe_le_coe_iff.2 lo
  · by_cases hl : i = 255
    · rw [hl, pow_last]; exact EReal.coe_lt_top r
    · have hlt' : (n : ℕ) < i := hlt
      have hi2 : (i : ℕ) ≤ 254 := by have := i.isLt; have : (i : ℕ) ≠ 255 := fun e => hl (Fin.ext e); omega
      rw [pow_eq i (by omega) hi2]
      exact EReal.coe_lt_coe_iff.2 (hi.trans_le (zpow_le_zpow_right₀ (by norm_num) (by omega)))

/-- The two words of a field: the scale's and its inverse's. -/
theorem words : ∀ n : Fin 248, 1 ≤ (n : ℕ) → let e := Scalar.select (IntOp.cmpi .eq (BitVec.ofNat 32 n) 0#32) 0#32 (IntOp.subi (BitVec.ofNat 32 n) 126#32)
    IntOp.addi e 127#32 = BitVec.ofNat 32 (n + 1) ∧ IntOp.subi 127#32 e = BitVec.ofNat 32 (253 - n) := by
  decide +kernel

/-- The exponent in the reals: the floor of the binary logarithm and one, zero below the least normal number. -/
abbrev expo (r : ℝ) : ℤ := if r < (2 : ℝ) ^ (-126 : ℤ) then 0 else ⌊Real.log r / Real.log 2⌋ + 1

/-- The scale and its inverse are the powers of two of the exponent. -/
theorem scale_eq (r : ℝ) (h : r < (2 : ℝ) ^ (120 : ℤ)) :
    Ideal.ofBits .f32 (IntOp.shli .vector (IntOp.addi (exponent r) 127#32) 23#32) = (((2 : ℝ) ^ expo r : ℝ) : EReal)
    ∧ Ideal.ofBits .f32 (IntOp.shli .vector (IntOp.subi 127#32 (exponent r)) 23#32) = (((2 : ℝ) ^ (-expo r) : ℝ) : EReal) := by
  by_cases hr : r < (2 : ℝ) ^ (-126 : ℤ)
  · have e : exponent r = 0#32 := by rw [exponent, field_small r hr]; decide
    have p : pow 127 = ((1 : ℝ) : EReal) := by rw [pow_eq 127 (by decide) (by decide)]; norm_num
    rw [e, expo, if_pos hr]
    refine ⟨?_, ?_⟩
    · rw [show IntOp.addi 0#32 127#32 = BitVec.ofNat 32 (127 : Fin 256) from by decide]; rw [show (2 : ℝ) ^ (0 : ℤ) = 1 from zpow_zero _]; exact p
    · rw [show IntOp.subi 127#32 0#32 = BitVec.ofNat 32 (127 : Fin 256) from by decide]; rw [show (2 : ℝ) ^ (-0 : ℤ) = 1 from by simp]; exact p
  · have hr' := not_lt.1 hr
    have pos : 0 < r := lt_of_lt_of_le (by positivity) hr'
    have l2 : 0 < Real.log 2 := Real.log_pos (by norm_num)
    set L : ℤ := ⌊Real.log r / Real.log 2⌋ with hL
    have key : ∀ z : ℤ, Real.log ((2 : ℝ) ^ z) = z * Real.log 2 := fun z => Real.log_zpow 2 z
    have lo : (2 : ℝ) ^ L ≤ r := by
      rw [← Real.log_le_log_iff (by positivity) pos, key, ← le_div_iff₀ l2]; exact Int.floor_le _
    have hi : r < (2 : ℝ) ^ (L + 1) := by
      rw [← Real.log_lt_log_iff pos (by positivity), key, ← div_lt_iff₀ l2]; push_cast; exact Int.lt_floor_add_one _
    have L1 : -126 < L + 1 := (zpow_lt_zpow_iff_right₀ (by norm_num : (1 : ℝ) < 2)).1 (hr'.trans_lt hi)
    have L2 : L < 120 := (zpow_lt_zpow_iff_right₀ (by norm_num : (1 : ℝ) < 2)).1 (lo.trans_lt h)
    obtain ⟨n, hn⟩ : ∃ n : ℕ, (n : ℤ) = L + 127 := ⟨(L + 127).toNat, by omega⟩
    have n1 : 1 ≤ n := by omega
    have n2 : n ≤ 246 := by omega
    have f : field r = BitVec.ofNat 32 n :=
      field_normal r ⟨n, by omega⟩ n1 (by show n ≤ 254; omega) (by show (2 : ℝ) ^ ((n : ℤ) - 127) ≤ r; rw [hn]; simpa using lo)
        (by show r < (2 : ℝ) ^ ((n : ℤ) - 126); rw [hn, show L + 127 - 126 = L + 1 by ring]; exact hi)
    obtain ⟨w1, w2⟩ := words ⟨n, by omega⟩ n1
    rw [exponent, f, expo, if_neg hr]
    refine ⟨(congrArg (fun w => Ideal.ofBits .f32 (IntOp.shli .vector w 23#32)) w1).trans ?_, (congrArg (fun w => Ideal.ofBits .f32 (IntOp.shli .vector w 23#32)) w2).trans ?_⟩
    · refine (pow_eq ⟨n + 1, by omega⟩ (by show 1 ≤ n + 1; omega) (by show n + 1 ≤ 254; omega)).trans ?_
      rw [show (((⟨n + 1, by omega⟩ : Fin 256) : ℕ) : ℤ) - 127 = L + 1 by push_cast; omega]
    · refine (pow_eq ⟨253 - n, by omega⟩ (by show 1 ≤ 253 - n; omega) (by show 253 - n ≤ 254; omega)).trans ?_
      rw [show (((⟨253 - n, by omega⟩ : Fin 256) : ℕ) : ℤ) - 127 = -(L + 1) by push_cast; omega]

end Cert.Scale

end
-- ==== Proof.Quant.lean ====
/- The quantiser's scale and codes at one row: the kernel's words read as the reference's powers of two. -/
module

public import proofs.«01_k».proof.Proof.Out
public import proofs.«01_k».proof.Proof.Scale

@[expose] public section

set_option maxRecDepth 16384

noncomputable section

namespace Cert.KernelIdeal.Quant

open Idealize.ShloMosaic Idealize.SL.Sem Idealize.ShloMosaic.Pipeline Cert.KernelIdeal Cert.KernelIdeal.Gen

/-- The row number the scale is read from: the row's greatest magnitude over 448. -/
def row (f : Fin 128 → EReal) : EReal :=
  Finset.fold max (Ideal.ofBits .f32 4286578688#32) (fun d => FloatOps.absf (F := Ideal) (φ := .f32) (f d)) Finset.univ * Ideal.ofBits .f32 991054117#32

/-- The exponent of the kernel's key scale. -/
theorem pay23 (x : FVec Ideal S1x1x56x128 .bf16) (j : Fin 56) :
    k0_pay23 (F := Ideal) x (ix2 j 0) = Scale.exponent (row fun d => x (ix4 0 0 j d)) := by
  simp only [Scale.exponent, Scale.field, row]
  pointwise [k0_pay23, k0_pay22]

/-- The exponent of the kernel's value scale. -/
theorem pay28 (x : FVec Ideal S1x1x56x128 .bf16) (j : Fin 56) :
    k0_pay28 (F := Ideal) x (ix2 j 0) = Scale.exponent (row fun d => x (ix4 0 0 j d)) := by
  simp only [Scale.exponent, Scale.field, row]
  pointwise [k0_pay28, k0_pay27]

/-- The scale of a row, in the kernel's words. -/
abbrev scale (f : Fin 128 → EReal) : EReal :=
  Ideal.ofBits .f32 (IntOp.shli .vector (IntOp.addi (Scale.exponent (row f)) 127#32) 23#32)

/-- The code of a row's element, in the kernel's words. -/
abbrev code (f : Fin 128 → EReal) (d : Fin 128) : EReal :=
  min (Ideal.ofBits .f32 1138753536#32) (max (Ideal.ofBits .f32 3286237184#32)
    (f d * Ideal.ofBits .f32 (IntOp.shli .vector (IntOp.subi 127#32 (Scale.exponent (row f))) 23#32)))

/-- The kernel's key scale. -/
theorem pay24 (x : FVec Ideal S1x1x56x128 .bf16) (j : Fin 56) :
    (k0_pay24 (F := Ideal) x (ix2 j 0) : EReal) = scale fun d => x (ix4 0 0 j d) := by
  rw [scale, ← pay23]
  pointwise [k0_pay24]

/-- The kernel's value scale. -/
theorem pay29 (x : FVec Ideal S1x1x56x128 .bf16) (j : Fin 56) :
    (k0_pay29 (F := Ideal) x (ix2 j 0) : EReal) = scale fun d => x (ix4 0 0 j d) := by
  rw [scale, ← pay28]
  pointwise [k0_pay29]

/-- The kernel's key codes. -/
theorem kcode (x : FVec Ideal S1x1x56x128 .bf16) (j : Fin 56) (d : Fin 128) :
    (Out.kcode x (ix2 j d) : EReal) = code (fun d => x (ix4 0 0 j d)) d := by
  rw [code, ← pay23]
  pointwise [Out.kcode, k0_pay26, k0_pay25, k0_pay22]

/-- The kernel's value codes. -/
theorem vcode (x : FVec Ideal S1x1x56x128 .bf16) (j : Fin 56) (d : Fin 128) :
    (Out.vcode x (ix2 j d) : EReal) = code (fun d => x (ix4 0 0 j d)) d := by
  rw [code, ← pay28]
  pointwise [Out.vcode, k0_pay31, k0_pay30, k0_pay27]

/-- An index of a block of rows. -/
theorem row_ix (y : S1x1x56x128.Idx) : ∃ (j : Fin 56) (d : Fin 128), y = ix4 0 0 j d := by
  refine ⟨y 2, y 3, ?_⟩
  funext a
  fin_cases a
  · exact Fin.ext (Nat.lt_one_iff.1 (y 0).isLt)
  · exact Fin.ext (Nat.lt_one_iff.1 (y 1).isLt)
  · rfl
  · rfl

/-- An index of a block of scales. -/
theorem scale_ix (y : S1x1x1x56.Idx) : ∃ j : Fin 56, y = ix4 0 0 0 j := by
  refine ⟨y 3, ?_⟩
  funext a
  fin_cases a
  · exact Fin.ext (Nat.lt_one_iff.1 (y 0).isLt)
  · exact Fin.ext (Nat.lt_one_iff.1 (y 1).isLt)
  · exact Fin.ext (Nat.lt_one_iff.1 (y 2).isLt)
  · rfl

/-- The stored key codes. -/
theorem stored_kcode (x : FVec Ideal S1x1x56x128 .bf16) (y : S1x1x56x128.Idx) :
    (k0_pay32 (F := Ideal) (Out.kcode x) y : EReal) = code (fun d => x (ix4 0 0 (y 2) d)) (y 3) := by
  obtain ⟨j, d, rfl⟩ := row_ix y
  refine Eq.trans ?_ (kcode x j d)
  pointwise [k0_pay32]

/-- The stored value codes. -/
theorem stored_vcode (x : FVec Ideal S1x1x56x128 .bf16) (y : S1x1x56x128.Idx) :
    (k0_pay33 (F := Ideal) (k0_pay27 x) (k0_pay30 x) y : EReal) = code (fun d => x (ix4 0 0 (y 2) d)) (y 3) := by
  obtain ⟨j, d, rfl⟩ := row_ix y
  refine Eq.trans ?_ (vcode x j d)
  pointwise [k0_pay33, Out.vcode]

/-- The stored key scales. -/
theorem stored_kscale (x : FVec Ideal S1x1x56x128 .bf16) (y : S1x1x1x56.Idx) :
    (k0_pay36 (F := Ideal) (k0_pay24 x) y : EReal) = scale fun d => x (ix4 0 0 (y 3) d) := by
  obtain ⟨j, rfl⟩ := scale_ix y
  refine Eq.trans ?_ (pay24 x j)
  pointwise [k0_pay36, k0_pay34]

/-- The stored value scales. -/
theorem stored_vscale (x : FVec Ideal S1x1x56x128 .bf16) (y : S1x1x1x56.Idx) :
    (k0_pay37 (F := Ideal) (k0_pay29 x) y : EReal) = scale fun d => x (ix4 0 0 (y 3) d) := by
  obtain ⟨j, rfl⟩ := scale_ix y
  refine Eq.trans ?_ (pay29 x j)
  pointwise [k0_pay37, k0_pay35]

/-- The exponent as the reference writes it. -/
def expo (f : Fin 128 → EReal) : EReal :=
  if row f < Ideal.ofBits .f32 8388608#32 then 0
  else Ideal.liftRound Int.floor (Ideal.div (Ideal.log (row f)) (Ideal.log (Ideal.ofBits .f32 1073741824#32))) + 1

/-- The reference's exponent of a nonnegative row number. -/
theorem expo_eq (f : Fin 128 → EReal) (r : ℝ) (e : row f = r) : expo f = ((Scale.expo r : ℝ) : EReal) := by
  have t : Ideal.ofBits .f32 8388608#32 = (((2 : ℝ) ^ (-126 : ℤ) : ℝ) : EReal) := by
    simp [Ideal.ofBits, Ideal.ieee, -EReal.coe_mul]; norm_num
  have two : Ideal.ofBits .f32 1073741824#32 = ((2 : ℝ) : EReal) := by
    simp [Ideal.ofBits, Ideal.ieee, -EReal.coe_mul]; norm_num
  rw [expo, Scale.expo, e, t]
  by_cases h : r < (2 : ℝ) ^ (-126 : ℤ)
  · rw [if_pos h, if_pos (EReal.coe_lt_coe_iff.2 h)]; simp
  · have pos : 0 < r := lt_of_lt_of_le (by positivity) (not_lt.1 h)
    have l2 : Real.log 2 ≠ 0 := (Real.log_pos (by norm_num)).ne'
    rw [if_neg h, if_neg (fun q => h (EReal.coe_lt_coe_iff.1 q)), two]
    have lr : Ideal.log ((r : ℝ) : EReal) = ((Real.log r : ℝ) : EReal) := if_neg (not_le.2 pos)
    have lt : Ideal.log ((2 : ℝ) : EReal) = ((Real.log 2 : ℝ) : EReal) := if_neg (by norm_num)
    rw [lr, lt, Ideal.div, if_neg (by exact_mod_cast l2), ← EReal.coe_inv, ← EReal.coe_mul, ← div_eq_mul_inv]
    show ((⌊Real.log r / Real.log 2⌋ : ℝ) : EReal) + 1 = _
    push_cast
    rfl

/-- The rows the claim is of: their numbers are finite, below the greatest a scale takes. -/
abbrev Tame (f : Fin 128 → EReal) : Prop := ∃ r : ℝ, row f = r ∧ r < (2 : ℝ) ^ (120 : ℤ)

/-- Two to a whole power, as the exponential of a multiple of `log 2`. -/
theorem exp_log_two (z : ℤ) : Ideal.exp (((z : ℝ) : EReal) * Ideal.log (Ideal.ofBits .f32 1073741824#32)) = (((2 : ℝ) ^ z : ℝ) : EReal) := by
  have two : Ideal.ofBits .f32 1073741824#32 = ((2 : ℝ) : EReal) := by
    simp [Ideal.ofBits, Ideal.ieee, -EReal.coe_mul]; norm_num
  have lt : Ideal.log ((2 : ℝ) : EReal) = ((Real.log 2 : ℝ) : EReal) := if_neg (by norm_num)
  rw [two, lt, ← EReal.coe_mul]
  show ((Real.exp (z * Real.log 2) : ℝ) : EReal) = _
  rw [mul_comm, Real.exp_mul, Real.exp_log (by norm_num), Real.rpow_intCast]

/-- The kernel's scale is the reference's. -/
theorem scale_eq (f : Fin 128 → EReal) (h : Tame f) :
    scale f = Ideal.exp (expo f * Ideal.log (Ideal.ofBits .f32 1073741824#32)) := by
  obtain ⟨r, e, h⟩ := h
  rw [expo_eq f r e, scale, e, exp_log_two]
  exact (Scale.scale_eq r h).1

/-- The kernel's code is the reference's. -/
theorem code_eq (f : Fin 128 → EReal) (h : Tame f) (d : Fin 128) :
    code f d = min (Ideal.ofBits .f32 1138753536#32) (max (Ideal.ofBits .f32 3286237184#32)
      (f d * Ideal.exp ((0 - expo f) * Ideal.log (Ideal.ofBits .f32 1073741824#32)))) := by
  obtain ⟨r, e, h⟩ := h
  rw [expo_eq f r e, code, e, (Scale.scale_eq r h).2, ← exp_log_two]
  push_cast
  rw [zero_sub]

/-- A row of numbers of magnitude at most the greatest bf16 is tame. -/
theorem tame (f : Fin 128 → EReal) (h : ∀ d, ∃ g : ℝ, f d = g ∧ |g| ≤ (2 : ℝ) ^ (128 : ℤ)) : Tame f := by
  choose g hg hb using h
  have c : Ideal.ofBits .f32 991054117#32 = ((9586981 * (2 : ℝ) ^ (-32 : ℤ) : ℝ) : EReal) := by
    simp [Ideal.ofBits, Ideal.ieee, -EReal.coe_mul]
  have a : ∀ d, (FloatOps.absf (F := Ideal) (φ := .f32) (f d) : EReal) = ((|g d| : ℝ) : EReal) := fun d => by
    show max (f d : EReal) (-(f d)) = _
    rw [hg d, ← EReal.coe_neg]; exact (Monotone.map_max EReal.coe_strictMono.monotone).symm
  have s : ∃ m : ℝ, Finset.univ.sup (fun d => ((|g d| : ℝ) : EReal)) = m ∧ m ≤ (2 : ℝ) ^ (128 : ℤ) := by
    obtain ⟨d, -, hd⟩ := Finset.exists_mem_eq_sup (Finset.univ : Finset (Fin 128)) ⟨0, Finset.mem_univ _⟩ (fun d => ((|g d| : ℝ) : EReal))
    exact ⟨|g d|, hd, hb d⟩
  obtain ⟨m, hm, hb⟩ := s
  refine ⟨m * (9586981 * (2 : ℝ) ^ (-32 : ℤ)), ?_, ?_⟩
  · rw [row, Payload.fold_max, c]
    refine Eq.trans ?_ (EReal.coe_mul m _).symm
    rw [← hm]
    exact congrArg (· * _) (congrArg (Finset.univ.sup ·) (funext a))
  · calc m * (9586981 * (2 : ℝ) ^ (-32 : ℤ)) ≤ (2 : ℝ) ^ (128 : ℤ) * (9586981 * (2 : ℝ) ^ (-32 : ℤ)) := by gcongr
      _ < (2 : ℝ) ^ (120 : ℤ) := by norm_num

end Cert.KernelIdeal.Quant

end
-- ==== Proof.Arrays.lean ====
/- What the kernel leaves in the arrays of its draft codes and scales: each block is written once,
   and holds the codes or the scales of the draft tokens of its batch and key head. -/
module

public import proofs.«01_k».proof.Proof.Quant
public import Idealize.ShloMosaic.Lib.Pipeline.Covers

@[expose] public section

set_option maxRecDepth 16384

noncomputable section

namespace Cert.KernelIdeal.Arrays

open Idealize.ShloMosaic Idealize.ShloMosaic.TcCoe Idealize.SL.Sem Idealize.ShloMosaic.Pipeline Cert.KernelIdeal Cert.KernelIdeal.Gen

variable (m : (ℓ : Loc nD τ sig) → Buf (Elt Ideal) ℓ)

/-- The first grid coordinate as a word is itself. -/
theorem word0 (i : grid0.Coords) : (BitVec.ofNat 32 (i 0).val).toNat = (i 0).val := by
  rw [BitVec.toNat_ofNat]; have : (i 0).val < 40 := (i 0).isLt; omega

/-- The second grid coordinate as a word is itself. -/
theorem word1 (i : grid0.Coords) : (BitVec.ofNat 32 (i 1).val).toNat = (i 1).val := by
  rw [BitVec.toNat_ofNat]; have : (i 1).val < 4 := (i 1).isLt; omega

/-- The block of a grid point in an array of rank 4: its batch, its key head, the whole rest. -/
theorem at4 (i : grid0.Coords) : cc0_transform_9 i = ![(i 0).val, (i 1).val, 0, 0] := by
  exact congrArg₂ (fun a b => ![a, b, 0, 0]) (word0 i) (word1 i)

/-- The same in an array of rank 5. -/
theorem at5 (i : grid0.Coords) : cc0_transform_4 i = ![(i 0).val, (i 1).val, 0, 0, 0] := by
  exact congrArg₂ (fun a b => ![a, b, 0, 0, 0]) (word0 i) (word1 i)

/-- Input 0's block at a grid point. -/
theorem idx0 (hO : Ok m) (t : Fin (cfgM m hO).N) : ((cfgM m hO).win 0).index t = ![((grid0.coords t) 0).val, ((grid0.coords t) 1).val, 0, 0] := at4 _

/-- Input 1's block at a grid point. -/
theorem idx1 (hO : Ok m) (t : Fin (cfgM m hO).N) : ((cfgM m hO).win 1).index t = ![((grid0.coords t) 0).val, ((grid0.coords t) 1).val, 0, 0] := at4 _

/-- Input 2's block at a grid point. -/
theorem idx2 (hO : Ok m) (t : Fin (cfgM m hO).N) : ((cfgM m hO).win 2).index t = ![((grid0.coords t) 0).val, ((grid0.coords t) 1).val, 0, 0] := at4 _

/-- Input 3's block at a grid point. -/
theorem idx3 (hO : Ok m) (t : Fin (cfgM m hO).N) : ((cfgM m hO).win 3).index t = ![((grid0.coords t) 0).val, ((grid0.coords t) 1).val, 0, 0] := at4 _

/-- Input 5's block at a grid point. -/
theorem idx5 (hO : Ok m) (t : Fin (cfgM m hO).N) : ((cfgM m hO).win 5).index t = ![((grid0.coords t) 0).val, ((grid0.coords t) 1).val, 0, 0] := at4 _

/-- Input 4's block at a grid point. -/
theorem idx4 (hO : Ok m) (t : Fin (cfgM m hO).N) : ((cfgM m hO).win 4).index t = ![((grid0.coords t) 0).val, ((grid0.coords t) 1).val, 0, 0, 0] := at5 _

/-- Input 6's block at a grid point. -/
theorem idx6 (hO : Ok m) (t : Fin (cfgM m hO).N) : ((cfgM m hO).win 6).index t = ![((grid0.coords t) 0).val, ((grid0.coords t) 1).val, 0, 0, 0] := at5 _

/-- Input 7 is one block. -/
theorem idx7 (hO : Ok m) (t : Fin (cfgM m hO).N) : ((cfgM m hO).win 7).index t = ![0, 0] := rfl

/-- Output 8's block at a grid point. -/
theorem idx8 (hO : Ok m) (t : Fin (cfgM m hO).N) : (pcfg0.win (adm m hO) 8).index t = ![((grid0.coords t) 0).val, ((grid0.coords t) 1).val, 0, 0] := at4 _

/-- Output 9's block at a grid point. -/
theorem idx9 (hO : Ok m) (t : Fin (cfgM m hO).N) : (pcfg0.win (adm m hO) 9).index t = ![((grid0.coords t) 0).val, ((grid0.coords t) 1).val, 0, 0] := at4 _

/-- Output 10's block at a grid point. -/
theorem idx10 (hO : Ok m) (t : Fin (cfgM m hO).N) : (pcfg0.win (adm m hO) 10).index t = ![((grid0.coords t) 0).val, ((grid0.coords t) 1).val, 0, 0] := at4 _

/-- Output 11's block at a grid point. -/
theorem idx11 (hO : Ok m) (t : Fin (cfgM m hO).N) : (pcfg0.win (adm m hO) 11).index t = ![((grid0.coords t) 0).val, ((grid0.coords t) 1).val, 0, 0] := at4 _

/-- Output 12's block at a grid point. -/
theorem idx12 (hO : Ok m) (t : Fin (cfgM m hO).N) : (pcfg0.win (adm m hO) 12).index t = ![((grid0.coords t) 0).val, ((grid0.coords t) 1).val, 0, 0] := at4 _

/-- Every pair of a batch and a key head is a grid point. -/
theorem onto {N : Fin 4 → ℕ} (f : grid0.Coords → Fin 4 → ℕ) (h : ∀ i, f i = ![(i 0).val, (i 1).val, 0, 0])
    (e0 : N 0 = 40) (e1 : N 1 = 4) (e2 : N 2 = 1) (e3 : N 3 = 1) (β : (a : Fin 4) → Fin (N a)) : ∃ i : grid0.Coords, ∀ a, f i a = β a := by
  refine ⟨fun a => match a with | ⟨0, _⟩ => ⟨(β 0).val, (β 0).isLt.trans_eq e0⟩ | ⟨1, _⟩ => ⟨(β 1).val, (β 1).isLt.trans_eq e1⟩, fun a => ?_⟩
  rw [h]
  fin_cases a
  · rfl
  · rfl
  · exact (Nat.lt_one_iff.1 ((β 2).isLt.trans_eq e2)).symm
  · exact (Nat.lt_one_iff.1 ((β 3).isLt.trans_eq e3)).symm

/-- Output 8's blocks cover its array. -/
theorem covers8 (hO : Ok m) : ((cfgM m hO).win 8).Covers := by
  refine Window.covers_of_indexMap_surj (w := (cfgM m hO).win 8) rfl (show ∀ a : Fin 4, 0 < (S1x1x392x128).size a by decide) fun β => ?_
  exact onto (N := fun a => ((cfgM m hO).win 8).nblk a) (fun i => cc0_transform_8 i) at4 (by show (40 + 1 - 1) / 1 = 40; norm_num)
    (by show (4 + 1 - 1) / 1 = 4; norm_num) (by show (392 + 392 - 1) / 392 = 1; norm_num) (by show (128 + 128 - 1) / 128 = 1; norm_num) β

/-- Output 9's blocks cover its array. -/
theorem covers9 (hO : Ok m) : ((cfgM m hO).win 9).Covers := by
  refine Window.covers_of_indexMap_surj (w := (cfgM m hO).win 9) rfl (show ∀ a : Fin 4, 0 < (S1x1x56x128).size a by decide) fun β => ?_
  exact onto (N := fun a => ((cfgM m hO).win 9).nblk a) (fun i => cc0_transform_9 i) at4 (by show (40 + 1 - 1) / 1 = 40; norm_num)
    (by show (4 + 1 - 1) / 1 = 4; norm_num) (by show (56 + 56 - 1) / 56 = 1; norm_num) (by show (128 + 128 - 1) / 128 = 1; norm_num) β

/-- Output 10's blocks cover its array. -/
theorem covers10 (hO : Ok m) : ((cfgM m hO).win 10).Covers := by
  refine Window.covers_of_indexMap_surj (w := (cfgM m hO).win 10) rfl (show ∀ a : Fin 4, 0 < (S1x1x1x56).size a by decide) fun β => ?_
  exact onto (N := fun a => ((cfgM m hO).win 10).nblk a) (fun i => cc0_transform_10 i) at4 (by show (40 + 1 - 1) / 1 = 40; norm_num)
    (by show (4 + 1 - 1) / 1 = 4; norm_num) (by show (1 + 1 - 1) / 1 = 1; norm_num) (by show (56 + 56 - 1) / 56 = 1; norm_num) β

/-- Output 11's blocks cover its array. -/
theorem covers11 (hO : Ok m) : ((cfgM m hO).win 11).Covers := by
  refine Window.covers_of_indexMap_surj (w := (cfgM m hO).win 11) rfl (show ∀ a : Fin 4, 0 < (S1x1x56x128).size a by decide) fun β => ?_
  exact onto (N := fun a => ((cfgM m hO).win 11).nblk a) (fun i => cc0_transform_11 i) at4 (by show (40 + 1 - 1) / 1 = 40; norm_num)
    (by show (4 + 1 - 1) / 1 = 4; norm_num) (by show (56 + 56 - 1) / 56 = 1; norm_num) (by show (128 + 128 - 1) / 128 = 1; norm_num) β

/-- Output 12's blocks cover its array. -/
theorem covers12 (hO : Ok m) : ((cfgM m hO).win 12).Covers := by
  refine Window.covers_of_indexMap_surj (w := (cfgM m hO).win 12) rfl (show ∀ a : Fin 4, 0 < (S1x1x1x56).size a by decide) fun β => ?_
  exact onto (N := fun a => ((cfgM m hO).win 12).nblk a) (fun i => cc0_transform_12 i) at4 (by show (40 + 1 - 1) / 1 = 40; norm_num)
    (by show (4 + 1 - 1) / 1 = 4; norm_num) (by show (1 + 1 - 1) / 1 = 1; norm_num) (by show (56 + 56 - 1) / 56 = 1; norm_num) β

/-- The codes of an array of draft tokens. -/
def codesOf (x : FVec Ideal S40x4x56x128 .bf16) : FVec Ideal S40x4x56x128 .fp8e4m3 :=
  fun ix => Quant.code (fun d => x (ix4 (ix 0) (ix 1) (ix 2) d)) (ix 3)

/-- The scales of an array of draft tokens. -/
def scalesOf (x : FVec Ideal S40x4x56x128 .bf16) : FVec Ideal S40x4x1x56 .f32 :=
  fun ix => Quant.scale fun d => x (ix4 (ix 0) (ix 1) (ix 3) d)

/-- What a grid point stores in output 9. -/
theorem stored9 (w : Memref sig .tc .vmem S1x1x56x128 .bf16) (h : w.IsWhole) (x : FVec Ideal S1x1x56x128 .bf16) (y : S1x1x56x128.Idx) :
    (k0_pay32 (F := Ideal) (k0_pay26 (k0_pay22 (View.read (Elt Ideal) w.view (h.unread x))) (k0_pay25 (View.read (Elt Ideal) w.view (h.unread x)))) y : EReal)
      = Quant.code (fun d => x (ix4 0 0 (y 2) d)) (y 3) := by
  rw [Memref.IsWhole.read_unread]
  exact Quant.stored_kcode x y

/-- Output 9's array at the end. -/
theorem keys (hO : Ok m) (hH : Hyps m hO) (c : Dev nD) : (dats m hO hH 0 c).arrAt 9 (cfgM m hO).N = codesOf (m (c.tc.loc main_arg1)) := by
  refine (dats m hO hH 0 c).arrAt_eq_of_covers 9 (codesOf (m (c.tc.loc main_arg1))) (covers9 m hO) fun t hf (y : S1x1x56x128.Idx) => ?_
  blk_simp
  rw [after0_9]
  frame_out
  refine (stored9 _ _ _ y).trans ?_
  have E : ((pcfg0.win (adm m hO) 9).blk t).view.emb y = ix4 (grid0.coords t 0) (grid0.coords t 1) (y 2) (y 3) := by
    blk_ext [idx9 m hO t]
  refine Eq.trans ?_ (congrArg (codesOf (m (c.tc.loc main_arg1))) E).symm
  have e : ∀ d : Fin 128, iblk m hO c 1 t (ix4 0 0 (y 2) d) = m (c.tc.loc main_arg1) (ix4 (grid0.coords t 0) (grid0.coords t 1) (y 2) d) := fun d => by
    blk_ext [iblk, V, idx1 m hO t]
  exact congrArg (fun f => Quant.code f (y 3)) (funext e)

/-- What a grid point stores in output 10. -/
theorem stored10 (w : Memref sig .tc .vmem S1x1x56x128 .bf16) (h : w.IsWhole) (x : FVec Ideal S1x1x56x128 .bf16) (y : S1x1x1x56.Idx) :
    (k0_pay36 (F := Ideal) (k0_pay24 (View.read (Elt Ideal) w.view (h.unread x))) y : EReal)
      = Quant.scale fun d => x (ix4 0 0 (y 3) d) := by
  rw [Memref.IsWhole.read_unread]
  exact Quant.stored_kscale x y

/-- Output 10's array at the end. -/
theorem keyScales (hO : Ok m) (hH : Hyps m hO) (c : Dev nD) : (dats m hO hH 0 c).arrAt 10 (cfgM m hO).N = scalesOf (m (c.tc.loc main_arg1)) := by
  refine (dats m hO hH 0 c).arrAt_eq_of_covers 10 (scalesOf (m (c.tc.loc main_arg1))) (covers10 m hO) fun t hf (y : S1x1x1x56.Idx) => ?_
  blk_simp
  rw [after0_10]
  frame_out
  refine (stored10 _ _ _ y).trans ?_
  have E : ((pcfg0.win (adm m hO) 10).blk t).view.emb y = ix4 (grid0.coords t 0) (grid0.coords t 1) (y 2) (y 3) := by
    blk_ext [idx10 m hO t]
  refine Eq.trans ?_ (congrArg (scalesOf (m (c.tc.loc main_arg1))) E).symm
  have e : ∀ d : Fin 128, iblk m hO c 1 t (ix4 0 0 (y 3) d) = m (c.tc.loc main_arg1) (ix4 (grid0.coords t 0) (grid0.coords t 1) (y 3) d) := fun d => by
    blk_ext [iblk, V, idx1 m hO t]
  exact congrArg (Quant.scale) (funext e)

/-- What a grid point stores in output 11. -/
theorem stored11 (w : Memref sig .tc .vmem S1x1x56x128 .bf16) (h : w.IsWhole) (x : FVec Ideal S1x1x56x128 .bf16) (y : S1x1x56x128.Idx) :
    (k0_pay33 (F := Ideal) (k0_pay27 (View.read (Elt Ideal) w.view (h.unread x))) (k0_pay30 (View.read (Elt Ideal) w.view (h.unread x))) y : EReal)
      = Quant.code (fun d => x (ix4 0 0 (y 2) d)) (y 3) := by
  rw [Memref.IsWhole.read_unread]
  exact Quant.stored_vcode x y

/-- Output 11's array at the end. -/
theorem values (hO : Ok m) (hH : Hyps m hO) (c : Dev nD) : (dats m hO hH 0 c).arrAt 11 (cfgM m hO).N = codesOf (m (c.tc.loc main_arg2)) := by
  refine (dats m hO hH 0 c).arrAt_eq_of_covers 11 (codesOf (m (c.tc.loc main_arg2))) (covers11 m hO) fun t hf (y : S1x1x56x128.Idx) => ?_
  blk_simp
  rw [after0_11]
  frame_out
  refine (stored11 _ _ _ y).trans ?_
  have E : ((pcfg0.win (adm m hO) 11).blk t).view.emb y = ix4 (grid0.coords t 0) (grid0.coords t 1) (y 2) (y 3) := by
    blk_ext [idx11 m hO t]
  refine Eq.trans ?_ (congrArg (codesOf (m (c.tc.loc main_arg2))) E).symm
  have e : ∀ d : Fin 128, iblk m hO c 2 t (ix4 0 0 (y 2) d) = m (c.tc.loc main_arg2) (ix4 (grid0.coords t 0) (grid0.coords t 1) (y 2) d) := fun d => by
    blk_ext [iblk, V, idx2 m hO t]
  exact congrArg (fun f => Quant.code f (y 3)) (funext e)

/-- What a grid point stores in output 12. -/
theorem stored12 (w : Memref sig .tc .vmem S1x1x56x128 .bf16) (h : w.IsWhole) (x : FVec Ideal S1x1x56x128 .bf16) (y : S1x1x1x56.Idx) :
    (k0_pay37 (F := Ideal) (k0_pay29 (View.read (Elt Ideal) w.view (h.unread x))) y : EReal)
      = Quant.scale fun d => x (ix4 0 0 (y 3) d) := by
  rw [Memref.IsWhole.read_unread]
  exact Quant.stored_vscale x y

/-- Output 12's array at the end. -/
theorem valueScales (hO : Ok m) (hH : Hyps m hO) (c : Dev nD) : (dats m hO hH 0 c).arrAt 12 (cfgM m hO).N = scalesOf (m (c.tc.loc main_arg2)) := by
  refine (dats m hO hH 0 c).arrAt_eq_of_covers 12 (scalesOf (m (c.tc.loc main_arg2))) (covers12 m hO) fun t hf (y : S1x1x1x56.Idx) => ?_
  blk_simp
  rw [after0_12]
  frame_out
  refine (stored12 _ _ _ y).trans ?_
  have E : ((pcfg0.win (adm m hO) 12).blk t).view.emb y = ix4 (grid0.coords t 0) (grid0.coords t 1) (y 2) (y 3) := by
    blk_ext [idx12 m hO t]
  refine Eq.trans ?_ (congrArg (scalesOf (m (c.tc.loc main_arg2))) E).symm
  have e : ∀ d : Fin 128, iblk m hO c 2 t (ix4 0 0 (y 3) d) = m (c.tc.loc main_arg2) (ix4 (grid0.coords t 0) (grid0.coords t 1) (y 3) d) := fun d => by
    blk_ext [iblk, V, idx2 m hO t]
  exact congrArg (Quant.scale) (funext e)

end Cert.KernelIdeal.Arrays

end
-- ==== Proof.ArraysOut.lean ====
/- What the kernel leaves in the array of its attention output: each block is written once, by the grid point of its batch
   and key head, and holds the rows' quotients. -/
module

public import proofs.«01_k».proof.Proof.Arrays
public import proofs.«01_k».proof.Proof.Lengths

@[expose] public section

set_option maxRecDepth 16384

noncomputable section

namespace Cert.KernelIdeal.Arrays

open Idealize.ShloMosaic Idealize.ShloMosaic.TcCoe Idealize.SL.Sem Idealize.ShloMosaic.Pipeline Cert.KernelIdeal Cert.KernelIdeal.Gen
open Cert.Softmax (top acc)

section
variable (q : FVec Ideal S40x4x392x128 .bf16) (kn vn : FVec Ideal S40x4x56x128 .bf16) (ck cv : FVec Ideal S40x4x3840x128 .fp8e4m3)
  (ks vs : FVec Ideal S40x4x15x1x256 .f32) (len : IVec S40 32) (mask : FVec Ideal S392x56 .f32) (b : Fin 40) (g : Fin 4)

/-- A draft token's score. -/
def draft (r : Fin 392) (j : Fin 56) : EReal :=
  (∑ d : Fin 128, (q (ix4 b g r d) : EReal) * Quant.code (fun e => kn (ix4 b g j e)) d) * (Quant.scale (fun e => kn (ix4 b g j e)) * Payload.c)
    + if (0 : EReal) < mask (ix2 r j) then 0 else ⊥

/-- A cached token's score. -/
def cached (r : Fin 392) (t : ℕ) : EReal :=
  if h : t < 3840 then
    if (t : ℤ) < (len (ix1 b)).toInt then
      (∑ d : Fin 128, (q (ix4 b g r d) : EReal) * ck (ix4 b g ⟨t, h⟩ d)) * ((ks (ix5 b g ⟨t / 256, by omega⟩ 0 ⟨t % 256, by omega⟩) : EReal) * Payload.c)
    else ⊥
  else ⊥

/-- A draft token's value at a lane. -/
def draftValue (d : Fin 128) (j : Fin 56) : EReal := Quant.scale (fun e => vn (ix4 b g j e)) * Quant.code (fun e => vn (ix4 b g j e)) d

/-- A cached token's value at a lane. -/
def cachedValue (d : Fin 128) (t : ℕ) : EReal :=
  if h : t < 3840 then (vs (ix5 b g ⟨t / 256, by omega⟩ 0 ⟨t % 256, by omega⟩) : EReal) * cv (ix4 b g ⟨t, h⟩ d) else 0

/-- An output entry. -/
def entry (r : Fin 392) (d : Fin 128) : EReal :=
  Ideal.div
    (acc (draft q kn mask b g r) (cached q ck ks len b g r) (draftValue vn b g d) (cachedValue cv vs b g d) 3840 (top (draft q kn mask b g r) (cached q ck ks len b g r) 3840))
    (acc (draft q kn mask b g r) (cached q ck ks len b g r) (fun _ => 1) (fun _ => 1) 3840 (top (draft q kn mask b g r) (cached q ck ks len b g r) 3840))

end

variable (m : (ℓ : Loc nD τ sig) → Buf (Elt Ideal) ℓ)

/-- The output array. -/
def outputs (c : Dev nD) : FVec Ideal S40x4x392x128 .bf16 := fun ix =>
  entry (V m c main_v2) (m (c.tc.loc main_arg1)) (m (c.tc.loc main_arg2)) (m (c.tc.loc main_arg3)) (m (c.tc.loc main_arg5)) (V m c main_v5) (V m c main_v8)
    (m (c.tc.loc main_arg7)) (V m c main_v12) (ix 0) (ix 1) (ix 2) (ix 3)

/-- A lane of an output block. -/
theorem out_ix (y : S1x1x392x128.Idx) : ∃ (r : Fin 392) (d : Fin 128), y = ix4 0 0 r d := by
  refine ⟨y 2, y 3, ?_⟩
  blk_ext []

/-- The batch's cached length, read by its grid point from the prefetched table. -/
theorem length_eq (c : Dev nD) (i : grid0.Coords) :
    tbM0_0.view.readAt (Elt Ideal) (Rect.unit (s := S40) (k0_off1 i) S1.size (k0_off1_inb i)).toLoadRect (tbl m 0) (Shape.Idx.first (numel1_S1.symm ▸ Nat.one_pos))
      = m (c.tc.loc main_arg7) (ix1 (i 0)) := by
  obtain rfl : c = 0 := Subsingleton.elim _ _
  rw [Lengths.tbl_eq]
  rw [View.readAt_apply]
  have e : k0_off1 i 0 = (i 0).val := word0 i
  blk_ext [Rect.idx_unit_val, e]

/-- The queries of a block. -/
theorem pay21 (x : Vec Ideal S1x1x392x128 .bf16) (r : Fin 392) (d : Fin 128) : (k0_pay21 (F := Ideal) x (ix2 r d) : EReal) = x (ix4 0 0 r d) := by
  pointwise [k0_pay21]

/-- A grid point's draft scores. -/
def draftAt (hO : Ok m) (c : Dev nD) (t : Fin (cfgM m hO).N) (r : Fin 392) : Fin 56 → EReal :=
  Out.draft (iblk m hO c 0 t) (iblk m hO c 1 t) (iblk m hO c 7 t) r

/-- A row's quotient depends on its scores and its values alone. -/
theorem quotient_congr {b b' : Fin 56 → EReal} {s s' : ℕ → EReal} {wb wb' : Fin 56 → EReal} {w w' : ℕ → EReal} (e0 : b = b') (e1 : s = s') (e2 : wb = wb') (e3 : w = w') :
    Ideal.div (acc b s wb w 3840 (top b s 3840)) (acc b s (fun _ => 1) (fun _ => 1) 3840 (top b s 3840))
      = Ideal.div (acc b' s' wb' w' 3840 (top b' s' 3840)) (acc b' s' (fun _ => 1) (fun _ => 1) 3840 (top b' s' 3840)) := by
  subst e0 e1 e2 e3; rfl

/-- A grid point's first output block is the one its body stores. -/
theorem out_fst (hO : Ok m) (hH : Hyps m hO) (c : Dev nD) (t : Fin (cfgM m hO).N) :
    (outsAt0 m hO hH c t).1 = out0_A_8 c (grid0.coords t)
      (ms0_0 m hO t) (hs0_0 m hO t) (ms0_1 m hO t) (hs0_1 m hO t) (ms0_2 m hO t) (hs0_2 m hO t) (ms0_3 m hO t) (hs0_3 m hO t) (ms0_4 m hO t) (hs0_4 m hO t)
      (ms0_5 m hO t) (hs0_5 m hO t) (ms0_6 m hO t) (hs0_6 m hO t) (ms0_7 m hO t) (hs0_7 m hO t) (ms0_8 m hO t) (hs0_8 m hO t) (ms0_9 m hO t) (hs0_9 m hO t)
      (ms0_10 m hO t) (hs0_10 m hO t) (ms0_11 m hO t) (hs0_11 m hO t) (ms0_12 m hO t) (hs0_12 m hO t)
      (iblk m hO c 0 t) (iblk m hO c 1 t) (iblk m hO c 2 t) (iblk m hO c 3 t) (iblk m hO c 4 t) (iblk m hO c 5 t) (iblk m hO c 6 t) (iblk m hO c 7 t)
      (tbl m 0) (Hyps.c0 hH c t) := by
  unfold outsAt0
  dsimp only

/-- What a grid point's body stores at a row, over its blocks. -/
theorem out_row (hO : Ok m) (hH : Hyps m hO) (c : Dev nD) (t : Fin (cfgM m hO).N) (n : BitVec 32)
    (en : tbM0_0.view.readAt (Elt Ideal) (Rect.unit (s := S40) (k0_off1 (grid0.coords t)) S1.size (k0_off1_inb (grid0.coords t))).toLoadRect (tbl m 0)
      (Shape.Idx.first (numel1_S1.symm ▸ Nat.one_pos)) = n)
    (hn : n.toInt ≤ 3840) (r : Fin 392) (d : Fin 128) :
    (out0_A_8 (F := Ideal) c (grid0.coords t)
      (ms0_0 m hO t) (hs0_0 m hO t) (ms0_1 m hO t) (hs0_1 m hO t) (ms0_2 m hO t) (hs0_2 m hO t) (ms0_3 m hO t) (hs0_3 m hO t) (ms0_4 m hO t) (hs0_4 m hO t)
      (ms0_5 m hO t) (hs0_5 m hO t) (ms0_6 m hO t) (hs0_6 m hO t) (ms0_7 m hO t) (hs0_7 m hO t) (ms0_8 m hO t) (hs0_8 m hO t) (ms0_9 m hO t) (hs0_9 m hO t)
      (ms0_10 m hO t) (hs0_10 m hO t) (ms0_11 m hO t) (hs0_11 m hO t) (ms0_12 m hO t) (hs0_12 m hO t)
      (iblk m hO c 0 t) (iblk m hO c 1 t) (iblk m hO c 2 t) (iblk m hO c 3 t) (iblk m hO c 4 t) (iblk m hO c 5 t) (iblk m hO c 6 t) (iblk m hO c 7 t)
      (tbl m 0) (Hyps.c0 hH c t) (ix4 0 0 r d) : EReal)
      = Ideal.div (acc (Out.draft (iblk m hO c 0 t) (iblk m hO c 1 t) (iblk m hO c 7 t) r) (Point.score n (k0_pay21 (iblk m hO c 0 t)) (iblk m hO c 3 t) (iblk m hO c 4 t) r) (Out.draftValue (iblk m hO c 2 t) d) (Point.value (iblk m hO c 5 t) (iblk m hO c 6 t) d) 3840
            (top (Out.draft (iblk m hO c 0 t) (iblk m hO c 1 t) (iblk m hO c 7 t) r) (Point.score n (k0_pay21 (iblk m hO c 0 t)) (iblk m hO c 3 t) (iblk m hO c 4 t) r) 3840))
          (acc (Out.draft (iblk m hO c 0 t) (iblk m hO c 1 t) (iblk m hO c 7 t) r) (Point.score n (k0_pay21 (iblk m hO c 0 t)) (iblk m hO c 3 t) (iblk m hO c 4 t) r) (fun _ => 1) (fun _ => 1) 3840
            (top (Out.draft (iblk m hO c 0 t) (iblk m hO c 1 t) (iblk m hO c 7 t) r) (Point.score n (k0_pay21 (iblk m hO c 0 t)) (iblk m hO c 3 t) (iblk m hO c 4 t) r) 3840)) := by
  exact Out.out8 c (grid0.coords t)
      (ms0_0 m hO t) (hs0_0 m hO t) (ms0_1 m hO t) (hs0_1 m hO t) (ms0_2 m hO t) (hs0_2 m hO t) (ms0_3 m hO t) (hs0_3 m hO t) (ms0_4 m hO t) (hs0_4 m hO t)
      (ms0_5 m hO t) (hs0_5 m hO t) (ms0_6 m hO t) (hs0_6 m hO t) (ms0_7 m hO t) (hs0_7 m hO t) (ms0_8 m hO t) (hs0_8 m hO t) (ms0_9 m hO t) (hs0_9 m hO t)
      (ms0_10 m hO t) (hs0_10 m hO t) (ms0_11 m hO t) (hs0_11 m hO t) (ms0_12 m hO t) (hs0_12 m hO t)
      (iblk m hO c 0 t) (iblk m hO c 1 t) (iblk m hO c 2 t) (iblk m hO c 3 t) (iblk m hO c 4 t) (iblk m hO c 5 t) (iblk m hO c 6 t) (iblk m hO c 7 t)
      (tbl m 0) (Hyps.c0 hH c t) n en hn r d

/-- What a grid point stores in its output block. -/
theorem out_point (hO : Ok m) (hH : Hyps m hO) (c : Dev nD) (hn : ∀ i : S40.Idx, (show BitVec 32 from m (c.tc.loc main_arg7) i).toInt ≤ 3840)
    (t : Fin (cfgM m hO).N) (r : Fin 392) (d : Fin 128) :
    ((outsAt0 m hO hH c t).1 (ix4 0 0 r d) : EReal)
      = entry (V m c main_v2) (m (c.tc.loc main_arg1)) (m (c.tc.loc main_arg2)) (m (c.tc.loc main_arg3)) (m (c.tc.loc main_arg5)) (V m c main_v5) (V m c main_v8)
          (m (c.tc.loc main_arg7)) (V m c main_v12) (grid0.coords t 0) (grid0.coords t 1) r d := by
  have b0 : ∀ (r : Fin 392) (d : Fin 128), iblk m hO c 0 t (ix4 0 0 r d) = V m c main_v2 (ix4 (grid0.coords t 0) (grid0.coords t 1) r d) := fun r d => by
    blk_ext [iblk, idx0 m hO t]
  have b1 : ∀ (j : Fin 56) (d : Fin 128), iblk m hO c 1 t (ix4 0 0 j d) = m (c.tc.loc main_arg1) (ix4 (grid0.coords t 0) (grid0.coords t 1) j d) := fun j d => by
    blk_ext [iblk, V, idx1 m hO t]
  have b2 : ∀ (j : Fin 56) (d : Fin 128), iblk m hO c 2 t (ix4 0 0 j d) = m (c.tc.loc main_arg2) (ix4 (grid0.coords t 0) (grid0.coords t 1) j d) := fun j d => by
    blk_ext [iblk, V, idx2 m hO t]
  have b3 : ∀ (j : Fin 3840) (d : Fin 128), iblk m hO c 3 t (ix4 0 0 j d) = m (c.tc.loc main_arg3) (ix4 (grid0.coords t 0) (grid0.coords t 1) j d) := fun j d => by
    blk_ext [iblk, V, idx3 m hO t]
  have b5 : ∀ (j : Fin 3840) (d : Fin 128), iblk m hO c 5 t (ix4 0 0 j d) = m (c.tc.loc main_arg5) (ix4 (grid0.coords t 0) (grid0.coords t 1) j d) := fun j d => by
    blk_ext [iblk, V, idx5 m hO t]
  have b4 : ∀ (k : Fin 15) (j : Fin 256), iblk m hO c 4 t (ix5 0 0 k 0 j) = V m c main_v5 (ix5 (grid0.coords t 0) (grid0.coords t 1) k 0 j) := fun k j => by
    blk_ext [iblk, idx4 m hO t]
  have b6 : ∀ (k : Fin 15) (j : Fin 256), iblk m hO c 6 t (ix5 0 0 k 0 j) = V m c main_v8 (ix5 (grid0.coords t 0) (grid0.coords t 1) k 0 j) := fun k j => by
    blk_ext [iblk, idx6 m hO t]
  have b7 : ∀ (r : Fin 392) (j : Fin 56), iblk m hO c 7 t (ix2 r j) = V m c main_v12 (ix2 r j) := fun r j => by
    blk_ext [iblk, idx7 m hO t]
  have k1 : ∀ (j : Fin 56) (d : Fin 128), (Out.kcode (iblk m hO c 1 t) (ix2 j d) : EReal)
      = Quant.code (fun e => m (c.tc.loc main_arg1) (ix4 (grid0.coords t 0) (grid0.coords t 1) j e)) d := fun j d =>
    (Quant.kcode (iblk m hO c 1 t) j d).trans (congrArg (fun f => Quant.code f d) (funext (b1 j)))
  have s1 : ∀ j : Fin 56, (k0_pay24 (F := Ideal) (iblk m hO c 1 t) (ix2 j 0) : EReal)
      = Quant.scale (fun e => m (c.tc.loc main_arg1) (ix4 (grid0.coords t 0) (grid0.coords t 1) j e)) := fun j =>
    (Quant.pay24 (iblk m hO c 1 t) j).trans (congrArg Quant.scale (funext (b1 j)))
  have k2 : ∀ (j : Fin 56) (d : Fin 128), (Out.vcode (iblk m hO c 2 t) (ix2 j d) : EReal)
      = Quant.code (fun e => m (c.tc.loc main_arg2) (ix4 (grid0.coords t 0) (grid0.coords t 1) j e)) d := fun j d =>
    (Quant.vcode (iblk m hO c 2 t) j d).trans (congrArg (fun f => Quant.code f d) (funext (b2 j)))
  have s2 : ∀ j : Fin 56, (k0_pay29 (F := Ideal) (iblk m hO c 2 t) (ix2 j 0) : EReal)
      = Quant.scale (fun e => m (c.tc.loc main_arg2) (ix4 (grid0.coords t 0) (grid0.coords t 1) j e)) := fun j =>
    (Quant.pay29 (iblk m hO c 2 t) j).trans (congrArg Quant.scale (funext (b2 j)))
  have q0 : ∀ (r : Fin 392) (d : Fin 128), (k0_pay21 (F := Ideal) (iblk m hO c 0 t) (ix2 r d) : EReal)
      = V m c main_v2 (ix4 (grid0.coords t 0) (grid0.coords t 1) r d) := fun r d =>
    (pay21 (iblk m hO c 0 t) r d).trans (b0 r d)
  have e0 : ∀ r : Fin 392, draftAt m hO c t r = draft (V m c main_v2) (m (c.tc.loc main_arg1)) (V m c main_v12) (grid0.coords t 0) (grid0.coords t 1) r := fun r => by
    funext j
    simp only [draftAt, Out.draft, draft, k1, s1, b0, b7]
  have e1 : ∀ r : Fin 392, Point.score (m (c.tc.loc main_arg7) (ix1 (grid0.coords t 0))) (k0_pay21 (iblk m hO c 0 t)) (iblk m hO c 3 t) (iblk m hO c 4 t) r
      = cached (V m c main_v2) (m (c.tc.loc main_arg3)) (V m c main_v5) (m (c.tc.loc main_arg7)) (grid0.coords t 0) (grid0.coords t 1) r := fun r => by
    funext k
    simp only [Point.score, cached, q0, b3, b4]
  have e2 : Out.draftValue (iblk m hO c 2 t) d = draftValue (m (c.tc.loc main_arg2)) (grid0.coords t 0) (grid0.coords t 1) d := by
    funext j
    simp only [Out.draftValue, draftValue, k2, s2]
  have e3 : Point.value (iblk m hO c 5 t) (iblk m hO c 6 t) d = cachedValue (m (c.tc.loc main_arg5)) (V m c main_v8) (grid0.coords t 0) (grid0.coords t 1) d := by
    funext k
    simp only [Point.value, cachedValue, b5, b6]
  have h := (congrFun (out_fst m hO hH c t) (ix4 0 0 r d)).trans
    (out_row m hO hH c t (m (c.tc.loc main_arg7) (ix1 (grid0.coords t 0))) (length_eq m c (grid0.coords t)) (hn _) r d)
  exact h.trans (quotient_congr (e0 r) (e1 r) e2 e3)

/-- The output's array at the end. -/
theorem outputs_eq (hO : Ok m) (hH : Hyps m hO) (c : Dev nD) (hn : ∀ i : S40.Idx, (show BitVec 32 from m (c.tc.loc main_arg7) i).toInt ≤ 3840) :
    (dats m hO hH 0 c).arrAt 8 (cfgM m hO).N = outputs m c := by
  refine (dats m hO hH 0 c).arrAt_eq_of_covers 8 (outputs m c) (covers8 m hO) fun t hf (y : S1x1x392x128.Idx) => ?_
  blk_simp
  rw [after0_8]
  obtain ⟨r, d, rfl⟩ := out_ix y
  have E : ((pcfg0.win (adm m hO) 8).blk t).view.emb (ix4 0 0 r d : S1x1x392x128.Idx) = ix4 (grid0.coords t 0) (grid0.coords t 1) r d := by
    blk_ext [idx8 m hO t]
  refine Eq.trans ?_ (congrArg (outputs m c) E).symm
  exact out_point m hO hH c hn t r d

end Cert.KernelIdeal.Arrays

end
-- ==== Proof.RefOut.lean ====
/- The reference's attention output at one entry: a softmax over the cached and the draft scores of a query row,
   applied to the dequantised values and divided by its denominator at the end. -/
module

public import proofs.«01_k».proof.Proof.Softmax
public import proofs.«01_k».proof.Proof.Payload
public import proofs.«01_k».proof.Proof.Gen.ReferenceIdeal.Read
public import Idealize.ShloMosaic.Lib.Pipeline.ValueKit

@[expose] public section

set_option maxRecDepth 16384

noncomputable section

namespace Cert.ReferenceIdeal.Out

open Idealize.ShloMosaic Idealize.SL.Sem Idealize.ShloMosaic.Pipeline Cert.ReferenceIdeal Cert.ReferenceIdeal.Gen Cert.ReferenceIdeal.Read
open Cert.Softmax (top)

variable (x0 : FVec Ideal S40x56x28x128 .bf16) (x4 x6 : FVec Ideal S40x4x60 .f32) (x7 : IVec S40 32) (x8 : IVec S56x56 1)
  (r1 r3 : FVec Ideal S40x4x56 .f32) (r4 r5 : FVec Ideal S40x4x56x128 .bf16) (r6 r7 : FVec Ideal S40x4x3840x128 .bf16)
  (b : Fin 40) (g : Fin 4) (h : Fin 7) (s : Fin 56) (d : Fin 128) (t : Fin 3840) (j : Fin 56)

/-- The row of a query head of a group at a sequence position. -/
abbrev at_ (h : Fin 7) (s : Fin 56) : Fin 392 := ⟨56 * h + s, by omega⟩

/-- The row, with its product written the other way round. -/
theorem at_eq (h : Fin 7) (s : Fin 56) (p : h.val * 56 + s.val < 392) : (⟨h.val * 56 + s.val, p⟩ : Fin 392) = at_ h s := Fin.ext (by simp only [at_]; omega)

/-- The query head of a group. -/
abbrev head (g : Fin 4) (h : Fin 7) : Fin 28 := ⟨7 * g + h, by omega⟩

/-- The query head, with its product written the other way round. -/
theorem head_eq (g : Fin 4) (h : Fin 7) (p : g.val * 7 + h.val < 28) : (⟨g.val * 7 + h.val, p⟩ : Fin 28) = head g h := Fin.ext (by simp only [head]; omega)

/-- The queries by row. -/
theorem queries : val_main_v3 (F := Ideal) x0 (ix4 b g (at_ h s) d) = x0 (ix4 b s (head g h) d) := by
  rw [← head_eq g h (by omega)]
  dsimp only [at_]
  pointwise [val_main_v3, val_main_v2, val_main_v1]

/-- The queries by head and position. -/
theorem queries5 : val_main_v2 (F := Ideal) x0 (ix5 b g h s d) = x0 (ix4 b s (head g h) d) := by
  rw [← head_eq g h (by omega)]
  pointwise [val_main_v2, val_main_v1]

/-- A cached key's scale is its block's. -/
theorem keyScales : val_main_v5 (F := Ideal) x4 (ix3 b g t) = x4 (ix3 b g ⟨t / 64, by omega⟩) := by
  pointwise [val_main_v5, val_main_v4]

/-- The square root of 128, in the form in which the reference states it. -/
theorem root : (id (Host.sqrt (F := Ideal) (constant S_ .f32 1124073472#32)) ix0 : EReal) = ((Real.sqrt 128 : ℝ) : EReal) := by
  show Ideal.sqrt (Ideal.ofBits .f32 1124073472#32) = _
  have e : Ideal.ofBits .f32 1124073472#32 = ((128 : ℝ) : EReal) := by
    simp [Ideal.ofBits, Ideal.ieee, -EReal.coe_mul]; norm_num
  rw [e]
  exact if_neg (by norm_num)

/-- The mask's number. -/
theorem bot : (id (constant (F := Ideal) S_ .f32 4286578688#32) ix0 : EReal) = ⊥ := by
  show Ideal.ofBits .f32 4286578688#32 = _
  simp [Ideal.ofBits, Ideal.ieee]

/-- A cached token's score in the reference. -/
def cached (t : ℕ) : EReal :=
  if ht : t < 3840 then
    if (t : ℤ) < (x7 (ix1 b)).toInt then
      Ideal.div ((∑ d : Fin 128, (x0 (ix4 b s (head g h) d) : EReal) * r6 (ix4 b g ⟨t, ht⟩ d)) * (x4 (ix3 b g ⟨t / 64, by omega⟩) : EReal)) ((Real.sqrt 128 : ℝ) : EReal)
    else ⊥
  else ⊥

/-- A draft token's score in the reference. -/
def draft (j : Fin 56) : EReal :=
  if x8 (ix2 s j) = 1#1 then
    Ideal.div ((∑ d : Fin 128, (x0 (ix4 b s (head g h) d) : EReal) * r4 (ix4 b g j d)) * (r1 (ix3 b g j) : EReal)) ((Real.sqrt 128 : ℝ) : EReal)
  else ⊥

/-- A token's position, as a word, is itself. -/
theorem position : (BitVec.ofNat 32 t.val).toInt = (t.val : ℤ) := by
  have e : (BitVec.ofNat 32 t.val).toNat = t.val := by rw [BitVec.toNat_ofNat]; omega
  rw [BitVec.toInt_eq_toNat_of_lt (by rw [e]; omega), e]

/-- The cached scores. -/
theorem cached_eq : (val_main_v23 (F := Ideal) x0 x4 x7 r6 (ix4 b g (at_ h s) t) : EReal) = cached x0 x4 x7 r6 b g h s t.val := by
  have e : (val_main_v8 (F := Ideal) x0 r6 (ix4 b g (at_ h s) t) : EReal) = ∑ d : Fin 128, (x0 (ix4 b s (head g h) d) : EReal) * r6 (ix4 b g t d) := by
    simp only [← queries]
    pointwise [val_main_v8]
  have p := position t
  rw [cached, dif_pos t.isLt, ← root, ← bot, ← p, ← Cert.KernelIdeal.Payload.select_slt, ← e]
  refine Eq.trans ?_ (congrArg (fun k => Scalar.select (IntOp.cmpi CmpIPredicate.slt (BitVec.ofNat 32 t.val) (x7 (ix1 b)))
    (Ideal.div ((val_main_v8 (F := Ideal) x0 r6 (ix4 b g (at_ h s) t) : EReal) * k) _) _) (keyScales x4 b g t))
  pointwise [val_main_v23, val_main_call0_v2, val_main_call0_v1, val_main_call0_v0, val_main_cst_0, val_main_v22, val_main_v21, val_main_v20, val_main_v19,
    val_main_v18, val_main_v17, val_main_v16, val_main_v15, val_main_v14, val_main_v13, val_main_v12, val_main_cst, val_main_v11, val_main_v10, val_main_v9]

/-- The draft scores. -/
theorem draft_eq : (val_main_v33 (F := Ideal) x0 x8 r1 r4 (ix5 b g h s j) : EReal) = draft x0 x8 r1 r4 b g h s j := by
  have e : (val_main_v24 (F := Ideal) x0 r4 (ix5 b g h s j) : EReal) = ∑ d : Fin 128, (x0 (ix4 b s (head g h) d) : EReal) * r4 (ix4 b g j d) := by
    simp only [← queries5]
    pointwise [val_main_v24]
  rw [draft, ← root, ← bot, ← e]
  refine Eq.trans ?_ (show Scalar.select (x8 (ix2 s j)) _ _ = _ from rfl)
  pointwise [val_main_v33, val_main_call1_v2, val_main_call1_v1, val_main_call1_v0, val_main_cst_2, val_main_v32, val_main_v31, val_main_v30, val_main_v29,
    val_main_v28, val_main_cst_1, val_main_v27, val_main_v26, val_main_v25]

/-- The greatest elements of an array of rank 4 along its last axis. -/
theorem greatest4 {n0 n1 n2 n3 : ℕ} {u : Shape} (y : FVec Ideal ⟨4, ![n0, n1, n2, n3]⟩ .f32) (c : FVec Ideal u .f32)
    (p : (⟨4, ![n0, n1, n2, n3]⟩ : Shape).ReducesTo [3] ⟨3, ![n0, n1, n2]⟩) (hu : 0 < u.numel) (i : Fin n0) (j : Fin n1) (k : Fin n2) :
    (Host.reduce (FloatOps.maximumf (F := Ideal) (φ := .f32)) y c p hu (ix3 i j k) : EReal)
      = Finset.fold max (c (Shape.Idx.first hu) : EReal) (fun t => (y (ix4 i j k t) : EReal)) Finset.univ := by
  pointwise []

/-- The greatest elements of an array of rank 5 along its last axis. -/
theorem greatest5 {n0 n1 n2 n3 n4 : ℕ} {u : Shape} (y : FVec Ideal ⟨5, ![n0, n1, n2, n3, n4]⟩ .f32) (c : FVec Ideal u .f32)
    (p : (⟨5, ![n0, n1, n2, n3, n4]⟩ : Shape).ReducesTo [4] ⟨4, ![n0, n1, n2, n3]⟩) (hu : 0 < u.numel) (i : Fin n0) (j : Fin n1) (k : Fin n2) (l : Fin n3) :
    (Host.reduce (FloatOps.maximumf (F := Ideal) (φ := .f32)) y c p hu (ix4 i j k l) : EReal)
      = Finset.fold max (c (Shape.Idx.first hu) : EReal) (fun t => (y (ix5 i j k l t) : EReal)) Finset.univ := by
  pointwise []

/-- The greatest cached scores. -/
theorem mostCached (r : Fin 392) : (val_main_v34 (F := Ideal) x0 x4 x7 r6 (ix3 b g r) : EReal)
    = Finset.fold max (Ideal.ofBits .f32 4286578688#32) (fun t => (val_main_v23 (F := Ideal) x0 x4 x7 r6 (ix4 b g r t) : EReal)) Finset.univ := by
  exact greatest4 (val_main_v23 (F := Ideal) x0 x4 x7 r6) _ _ _ b g r

/-- The greatest draft scores. -/
theorem mostDraft : (val_main_v35 (F := Ideal) x0 x8 r1 r4 (ix4 b g h s) : EReal)
    = Finset.fold max (Ideal.ofBits .f32 4286578688#32) (fun j => (val_main_v33 (F := Ideal) x0 x8 r1 r4 (ix5 b g h s j) : EReal)) Finset.univ := by
  exact greatest5 (val_main_v33 (F := Ideal) x0 x8 r1 r4) _ _ _ b g h s

/-- A greatest element over the first tokens, with the tokens numbered by naturals. -/
theorem sup_fin (f : ℕ → EReal) : (Finset.univ.sup fun t : Fin 3840 => f t.val) = (Finset.range 3840).sup f := by
  refine le_antisymm (Finset.sup_le fun t _ => Finset.le_sup (f := f) (Finset.mem_range.2 t.isLt)) (Finset.sup_le fun t ht => ?_)
  exact Finset.le_sup (f := fun t : Fin 3840 => f t.val) (Finset.mem_univ ⟨t, Finset.mem_range.1 ht⟩)

/-- The larger of two numbers per row, one of them kept by head and position. -/
theorem larger (u : FVec Ideal S40x4x392 .f32) (v : FVec Ideal S40x4x7x56 .f32) :
    (maximumf u (shapeCast S40x4x392 v shapeCasts_S40x4x7x56_S40x4x392) (ix3 b g (at_ h s)) : EReal)
      = max (u (ix3 b g (at_ h s)) : EReal) (v (ix4 b g h s) : EReal) := by
  dsimp only [at_]
  pointwise []

/-- A row's greatest score. -/
def most : EReal := top (draft x0 x8 r1 r4 b g h s) (cached x0 x4 x7 r6 b g h s) 3840

/-- The greatest scores. -/
theorem most_eq : (val_main_v37 (F := Ideal) x0 x4 x7 x8 r1 r4 r6 (ix3 b g (at_ h s)) : EReal) = most x0 x4 x7 x8 r1 r4 r6 b g h s := by
  have e : (val_main_v37 (F := Ideal) x0 x4 x7 x8 r1 r4 r6 (ix3 b g (at_ h s)) : EReal)
      = max (val_main_v34 (F := Ideal) x0 x4 x7 r6 (ix3 b g (at_ h s)) : EReal) (val_main_v35 (F := Ideal) x0 x8 r1 r4 (ix4 b g h s) : EReal) := by
    exact larger b g h s (val_main_v34 (F := Ideal) x0 x4 x7 r6) (val_main_v35 (F := Ideal) x0 x8 r1 r4)
  rw [e, mostCached, mostDraft]
  simp only [cached_eq, draft_eq]
  rw [most, top, max_comm, ← sup_fin, Cert.KernelIdeal.Payload.fold_max, Cert.KernelIdeal.Payload.fold_max]

/-- The cached exponentials. -/
theorem cachedExp : (val_main_v42 (F := Ideal) x0 x4 x7 x8 r1 r4 r6 (ix4 b g (at_ h s) t) : EReal)
    = Ideal.exp (cached x0 x4 x7 r6 b g h s t.val - most x0 x4 x7 x8 r1 r4 r6 b g h s) := by
  rw [← most_eq, ← cached_eq]
  pointwise [val_main_v42, val_main_v41, val_main_v40, val_main_v39]

/-- The draft exponentials. -/
theorem draftExp : (val_main_v46 (F := Ideal) x0 x4 x7 x8 r1 r4 r6 (ix5 b g h s j) : EReal)
    = Ideal.exp (draft x0 x8 r1 r4 b g h s j - most x0 x4 x7 x8 r1 r4 r6 b g h s) := by
  rw [← most_eq, ← draft_eq, ← at_eq h s (by omega)]
  pointwise [val_main_v46, val_main_v45, val_main_v44, val_main_v43, val_main_v38]

/-- The denominators. -/
theorem denominator : (val_main_v50 (F := Ideal) x0 x4 x7 x8 r1 r4 r6 (ix3 b g (at_ h s)) : EReal)
    = (∑ t : Fin 3840, (val_main_v42 (F := Ideal) x0 x4 x7 x8 r1 r4 r6 (ix4 b g (at_ h s) t) : EReal))
      + ∑ j : Fin 56, (val_main_v46 (F := Ideal) x0 x4 x7 x8 r1 r4 r6 (ix5 b g h s j) : EReal) := by
  dsimp only [at_]
  pointwise [val_main_v50, val_main_v49, val_main_v48, val_main_v47, val_main_cst_5, val_main_cst_6]

/-- The cached values' sums. -/
theorem cachedSum : (val_main_v60 (F := Ideal) x0 x4 x6 x7 x8 r1 r4 r6 r7 (ix4 b g (at_ h s) d) : EReal)
    = ∑ t : Fin 3840, (val_main_v42 (F := Ideal) x0 x4 x7 x8 r1 r4 r6 (ix4 b g (at_ h s) t) : EReal) * (x6 (ix3 b g ⟨t / 64, by omega⟩) : EReal) * (r7 (ix4 b g t d) : EReal) := by
  pointwise [val_main_v60, val_main_v55, val_main_v54, val_main_v53, val_main_v52, val_main_v7, val_main_v6]

/-- The draft values' sums. -/
theorem draftSum : (val_main_v62 (F := Ideal) x0 x4 x7 x8 r1 r3 r4 r5 r6 (ix5 b g h s d) : EReal)
    = ∑ j : Fin 56, (val_main_v46 (F := Ideal) x0 x4 x7 x8 r1 r4 r6 (ix5 b g h s j) : EReal) * (r3 (ix3 b g j) : EReal) * (r5 (ix4 b g j d) : EReal) := by
  pointwise [val_main_v62, val_main_v59, val_main_v58, val_main_v57, val_main_v56]

/-- The output from its three sums. -/
theorem quotient : (val_main_v69 (F := Ideal) x0 x4 x6 x7 x8 r1 r3 r4 r5 r6 r7 (ix4 b s (head g h) d) : EReal)
    = Ideal.div ((val_main_v60 (F := Ideal) x0 x4 x6 x7 x8 r1 r4 r6 r7 (ix4 b g (at_ h s) d) : EReal)
        + (val_main_v62 (F := Ideal) x0 x4 x7 x8 r1 r3 r4 r5 r6 (ix5 b g h s d) : EReal))
      (val_main_v50 (F := Ideal) x0 x4 x7 x8 r1 r4 r6 (ix3 b g (at_ h s)) : EReal) := by
  rw [← at_eq h s (by omega)]
  dsimp only [head]
  pointwise [val_main_v69, val_main_v68, val_main_v67, val_main_v66, val_main_v65, val_main_v64, val_main_v63, val_main_v61, val_main_v51]

/-- A cached token's value, dequantised. -/
def cachedValue (d : Fin 128) (t : ℕ) : EReal :=
  if ht : t < 3840 then (x6 (ix3 b g ⟨t / 64, by omega⟩) : EReal) * r7 (ix4 b g ⟨t, ht⟩ d) else 0

/-- A draft token's value, dequantised. -/
def draftValue (d : Fin 128) (j : Fin 56) : EReal := (r3 (ix3 b g j) : EReal) * r5 (ix4 b g j d)

/-- The exponentials of a row of scores at `m`, weighted and summed: draft tokens first. -/
def sums (bs : Fin 56 → EReal) (ss : ℕ → EReal) (wb : Fin 56 → EReal) (w : ℕ → EReal) (m : EReal) : EReal :=
  (∑ j, Ideal.exp (bs j - m) * wb j) + ∑ t ∈ Finset.range 3840, Ideal.exp (ss t - m) * w t

/-- The output entry. -/
theorem out : (val_main_v69 (F := Ideal) x0 x4 x6 x7 x8 r1 r3 r4 r5 r6 r7 (ix4 b s (head g h) d) : EReal)
    = Ideal.div
        (sums (draft x0 x8 r1 r4 b g h s) (cached x0 x4 x7 r6 b g h s) (draftValue r3 r5 b g d) (cachedValue x6 r7 b g d) (most x0 x4 x7 x8 r1 r4 r6 b g h s))
        (sums (draft x0 x8 r1 r4 b g h s) (cached x0 x4 x7 r6 b g h s) (fun _ => 1) (fun _ => 1) (most x0 x4 x7 x8 r1 r4 r6 b g h s)) := by
  rw [quotient, denominator, cachedSum, draftSum]
  simp only [cachedExp, draftExp]
  unfold sums
  rw [Finset.sum_range, Finset.sum_range, add_comm]
  simp only [mul_one, draftValue, cachedValue, Fin.is_lt, dite_true, Fin.eta, mul_assoc]
  rw [add_comm (∑ t : Fin 3840, Ideal.exp _)]

end Cert.ReferenceIdeal.Out

end
-- ==== Proof.Compare.lean ====
/- The kernel's output entry against the reference's: the kernel's scores are the reference's times `1 / log 2`, and powers of 2
   at the scaled scores are powers of e at the scores. -/
module

public import proofs.«01_k».proof.Proof.ArraysOut
public import proofs.«01_k».proof.Proof.RefOut

@[expose] public section

set_option maxRecDepth 16384

noncomputable section

namespace Cert.Compare

open Idealize.ShloMosaic Idealize.SL.Sem
open Cert.KernelIdeal (S40x4x392x128 S40x4x56x128 S40x4x3840x128 S40x4x15x1x256 S40 S392x56)
open Cert.KernelIdeal.Quant (code scale)
open Cert.ReferenceIdeal (S40x56x28x128 S40x4x60 S56x56 S40x4x56)
open Cert.ReferenceIdeal.Out (at_ head)
open Cert.Softmax (top acc κ κ_pos top_mul_κ acc_mul_κ)

/-- The kernel's scaled score is the reference's times `1 / log 2`. -/
theorem score (x y : EReal) : x * (y * Cert.KernelIdeal.Payload.c) = Ideal.div (x * y) ((Real.sqrt 128 : ℝ) : EReal) * κ := by
  have h : (Real.sqrt 128 : ℝ) ≠ 0 := by positivity
  have e : ((Real.sqrt 128 : ℝ) : EReal) ≠ 0 := by exact_mod_cast h
  rw [Ideal.div, if_neg e, Cert.KernelIdeal.Payload.c, EReal.coe_mul, ← EReal.coe_inv]
  simp only [κ, mul_assoc]

/-- A masked score stays masked. -/
theorem bot_mul : (⊥ : EReal) * κ = ⊥ := EReal.bot_mul_coe_of_pos κ_pos

/-- The mask's number is positive exactly where the mask holds. -/
theorem mask_pos (w : BitVec 1) : (0 : EReal) < FloatOps.uitofp (F := Ideal) .f32 w ↔ w = 1#1 := by
  have h : ∀ w : BitVec 1, w = 0#1 ∨ w = 1#1 := by decide
  rcases h w with rfl | rfl
  · refine ⟨fun p => ?_, fun p => absurd p (by decide)⟩
    have e : (FloatOps.uitofp (F := Ideal) .f32 0#1 : EReal) = 0 := by
      show ((((0#1).toNat : ℕ) : ℝ) : EReal) = 0
      simp
    rw [e] at p
    exact absurd p (lt_irrefl _)
  · refine ⟨fun _ => rfl, fun _ => ?_⟩
    have e : (FloatOps.uitofp (F := Ideal) .f32 1#1 : EReal) = 1 := by
      show ((((1#1).toNat : ℕ) : ℝ) : EReal) = 1
      simp
    rw [e]
    exact zero_lt_one

section
variable (q : FVec Ideal S40x4x392x128 .bf16) (kn vn : FVec Ideal S40x4x56x128 .bf16) (ck cv : FVec Ideal S40x4x3840x128 .fp8e4m3)
  (ks vs : FVec Ideal S40x4x15x1x256 .f32) (len : IVec S40 32) (mask : FVec Ideal S392x56 .f32)
  (x0 : FVec Ideal S40x56x28x128 .bf16) (x4 x6 : FVec Ideal S40x4x60 .f32) (x8 : IVec S56x56 1)
  (r1 r3 : FVec Ideal S40x4x56 .f32) (r4 r5 : FVec Ideal S40x4x56x128 .bf16) (r6 r7 : FVec Ideal S40x4x3840x128 .bf16)
  (b : Fin 40) (g : Fin 4) (h : Fin 7) (s : Fin 56) (d : Fin 128)

/-- The draft scores. -/
theorem draft (hq : ∀ d : Fin 128, (q (ix4 b g (at_ h s) d) : EReal) = x0 (ix4 b s (head g h) d))
    (hk : ∀ (j : Fin 56) (d : Fin 128), (r4 (ix4 b g j d) : EReal) = code (fun e => kn (ix4 b g j e)) d)
    (h1 : ∀ j : Fin 56, (r1 (ix3 b g j) : EReal) = scale fun e => kn (ix4 b g j e))
    (hm : ∀ j : Fin 56, (mask (ix2 (at_ h s) j) : EReal) = FloatOps.uitofp (F := Ideal) .f32 (x8 (ix2 s j))) :
    Cert.KernelIdeal.Arrays.draft q kn mask b g (at_ h s) = fun j => Cert.ReferenceIdeal.Out.draft x0 x8 r1 r4 b g h s j * κ := by
  funext j
  rw [Cert.KernelIdeal.Arrays.draft, Cert.ReferenceIdeal.Out.draft, hm j, score]
  simp only [hq, hk, h1, mask_pos]
  split
  · rw [add_zero]
  · rw [EReal.add_bot, bot_mul]

/-- A token's scale, by its place in the kernel's groups of 256 and in the blocks of 64. -/
theorem place (t : ℕ) (a : Fin 15) (o : Fin 256) (ha : a.val = t / 256) (ho : o.val = t % 256) (p : a.val * 4 + o.val / 64 < 60) (p' : t / 64 < 60) :
    (⟨a.val * 4 + o.val / 64, p⟩ : Fin 60) = ⟨t / 64, p'⟩ := Fin.ext (by show a.val * 4 + o.val / 64 = t / 64; omega)

/-- The cached scores. -/
theorem cached (hq : ∀ d : Fin 128, (q (ix4 b g (at_ h s) d) : EReal) = x0 (ix4 b s (head g h) d))
    (h6 : ∀ i, (r6 i : EReal) = ck i)
    (hks : ∀ (k : Fin 15) (j : Fin 256), (ks (ix5 b g k 0 j) : EReal) = x4 (ix3 b g ⟨k.val * 4 + j.val / 64, by omega⟩)) :
    Cert.KernelIdeal.Arrays.cached q ck ks len b g (at_ h s) = fun t => Cert.ReferenceIdeal.Out.cached x0 x4 len r6 b g h s t * κ := by
  funext t
  rw [Cert.KernelIdeal.Arrays.cached, Cert.ReferenceIdeal.Out.cached]
  by_cases ht : t < 3840
  · rw [dif_pos ht, dif_pos ht]
    by_cases hl : (t : ℤ) < (len (ix1 b)).toInt
    · rw [if_pos hl, if_pos hl, score, hks, place t ⟨t / 256, by omega⟩ ⟨t % 256, by omega⟩ rfl rfl _ (by omega)]
      simp only [hq, h6]
    · rw [if_neg hl, if_neg hl, bot_mul]
  · rw [dif_neg ht, dif_neg ht, bot_mul]

/-- The draft values. -/
theorem draftValue (hv : ∀ (j : Fin 56) (d : Fin 128), (r5 (ix4 b g j d) : EReal) = code (fun e => vn (ix4 b g j e)) d)
    (h3 : ∀ j : Fin 56, (r3 (ix3 b g j) : EReal) = scale fun e => vn (ix4 b g j e)) :
    Cert.KernelIdeal.Arrays.draftValue vn b g d = Cert.ReferenceIdeal.Out.draftValue r3 r5 b g d := by
  funext j
  rw [Cert.KernelIdeal.Arrays.draftValue, Cert.ReferenceIdeal.Out.draftValue, hv, h3]

/-- The cached values. -/
theorem cachedValue (h7 : ∀ i, (r7 i : EReal) = cv i)
    (hvs : ∀ (k : Fin 15) (j : Fin 256), (vs (ix5 b g k 0 j) : EReal) = x6 (ix3 b g ⟨k.val * 4 + j.val / 64, by omega⟩)) :
    Cert.KernelIdeal.Arrays.cachedValue cv vs b g d = Cert.ReferenceIdeal.Out.cachedValue x6 r7 b g d := by
  funext t
  rw [Cert.KernelIdeal.Arrays.cachedValue, Cert.ReferenceIdeal.Out.cachedValue]
  by_cases ht : t < 3840
  · rw [dif_pos ht, dif_pos ht, hvs, h7, place t ⟨t / 256, by omega⟩ ⟨t % 256, by omega⟩ rfl rfl]
  · rw [dif_neg ht, dif_neg ht]

/-- The kernel's quotient at scaled scores is the reference's at the scores. -/
theorem quotient (bs : Fin 56 → EReal) (ss : ℕ → EReal) (wb : Fin 56 → EReal) (w : ℕ → EReal) :
    Ideal.div (acc (fun j => bs j * κ) (fun t => ss t * κ) wb w 3840 (top (fun j => bs j * κ) (fun t => ss t * κ) 3840))
        (acc (fun j => bs j * κ) (fun t => ss t * κ) (fun _ => 1) (fun _ => 1) 3840 (top (fun j => bs j * κ) (fun t => ss t * κ) 3840))
      = Ideal.div (Cert.ReferenceIdeal.Out.sums bs ss wb w (top bs ss 3840)) (Cert.ReferenceIdeal.Out.sums bs ss (fun _ => 1) (fun _ => 1) (top bs ss 3840)) := by
  rw [top_mul_κ, acc_mul_κ, acc_mul_κ]
  rfl

/-- An output entry of the kernel is the reference's. -/
theorem entry (hq : ∀ d : Fin 128, (q (ix4 b g (at_ h s) d) : EReal) = x0 (ix4 b s (head g h) d))
    (hk : ∀ (j : Fin 56) (d : Fin 128), (r4 (ix4 b g j d) : EReal) = code (fun e => kn (ix4 b g j e)) d)
    (h1 : ∀ j : Fin 56, (r1 (ix3 b g j) : EReal) = scale fun e => kn (ix4 b g j e))
    (hv : ∀ (j : Fin 56) (d : Fin 128), (r5 (ix4 b g j d) : EReal) = code (fun e => vn (ix4 b g j e)) d)
    (h3 : ∀ j : Fin 56, (r3 (ix3 b g j) : EReal) = scale fun e => vn (ix4 b g j e))
    (h6 : ∀ i, (r6 i : EReal) = ck i) (h7 : ∀ i, (r7 i : EReal) = cv i)
    (hks : ∀ (k : Fin 15) (j : Fin 256), (ks (ix5 b g k 0 j) : EReal) = x4 (ix3 b g ⟨k.val * 4 + j.val / 64, by omega⟩))
    (hvs : ∀ (k : Fin 15) (j : Fin 256), (vs (ix5 b g k 0 j) : EReal) = x6 (ix3 b g ⟨k.val * 4 + j.val / 64, by omega⟩))
    (hm : ∀ j : Fin 56, (mask (ix2 (at_ h s) j) : EReal) = FloatOps.uitofp (F := Ideal) .f32 (x8 (ix2 s j))) :
    Cert.KernelIdeal.Arrays.entry q kn vn ck cv ks vs len mask b g (at_ h s) d
      = Cert.ReferenceIdeal.Read.val_main_v69 (F := Ideal) x0 x4 x6 len x8 r1 r3 r4 r5 r6 r7 (ix4 b s (head g h) d) := by
  refine Eq.trans ?_ (Cert.ReferenceIdeal.Out.out x0 x4 x6 len x8 r1 r3 r4 r5 r6 r7 b g h s d).symm
  rw [Cert.KernelIdeal.Arrays.entry, draft q kn mask x0 x8 r1 r4 b g h s hq hk h1 hm, cached q ck ks len x0 x4 r6 b g h s hq h6 hks,
    draftValue vn r3 r5 b g d hv h3, cachedValue cv vs x6 r7 b g d h7 hvs]
  exact quotient _ _ _ _

end

end Cert.Compare

end
-- ==== Proof.Host.lean ====
/- What the host operations around the kernel do to its operands and its arrays, entry by entry. -/
module

public import proofs.«01_k».proof.Proof.ArraysOut
public import proofs.«01_k».proof.Proof.RefOut

@[expose] public section

set_option maxRecDepth 16384

noncomputable section

namespace Cert.KernelIdeal.Host

open Idealize.ShloMosaic Idealize.ShloMosaic.TcCoe Idealize.SL.Sem Idealize.ShloMosaic.Pipeline Cert.KernelIdeal Cert.KernelIdeal.Gen
open Cert.ReferenceIdeal.Out (at_ head)

/-- The queries, regrouped by key head, query head of its group and position. -/
theorem queries_shape (x : FVec Ideal S40x56x28x128 .bf16) (b : Fin 40) (g : Fin 4) (h : Fin 7) (s : Fin 56) (d : Fin 128) :
    (shapeCast S40x4x392x128 (transpose S40x4x7x56x128 [0, 2, 3, 1, 4] (shapeCast S40x56x4x7x128 x shapeCasts_S40x56x28x128_S40x56x4x7x128)
      transposes_S40x56x4x7x128_S40x4x7x56x128_0_2_3_1_4) shapeCasts_S40x4x7x56x128_S40x4x392x128 (ix4 b g (at_ h s) d) : EReal) = x (ix4 b s (head g h) d) := by
  rw [← Cert.ReferenceIdeal.Out.head_eq g h (by omega)]
  dsimp only [at_]
  pointwise []

/-- The cache's scales, one per block of 64, spread over the tokens and cut in groups of 256. -/
theorem scales_shape (x : FVec Ideal S40x4x60 .f32) (b : Fin 40) (g : Fin 4) (k : Fin 15) (j : Fin 256) :
    (shapeCast S40x4x15x1x256 (shapeCast S40x4x3840 (broadcastInDim S40x4x60x64 ![0, 1, 2] bcast_S40x4x60_S40x4x60x64_0_1_2 x)
      shapeCasts_S40x4x60x64_S40x4x3840) shapeCasts_S40x4x3840_S40x4x15x1x256 (ix5 b g k 0 j) : EReal) = x (ix3 b g ⟨k.val * 4 + j.val / 64, by omega⟩) := by
  pointwise []

/-- The mask's numbers, repeated for the query heads of a group. -/
theorem mask_shape (x : IVec S56x56 1) (h : Fin 7) (s : Fin 56) (j : Fin 56) :
    (shapeCast S392x56 (broadcastInDim S7x56x1x56 ![0, 1, 2, 3] bcast_S1x56x1x56_S7x56x1x56_0_1_2_3
      (shapeCast S1x56x1x56 (uitofp (F := Ideal) .f32 x) shapeCasts_S56x56_S1x56x1x56)) shapeCasts_S7x56x1x56_S392x56 (ix2 (at_ h s) j) : EReal)
      = FloatOps.uitofp (F := Ideal) .f32 (x (ix2 s j)) := by
  dsimp only [at_]
  pointwise []

/-- The output array, regrouped by position and query head. -/
theorem out_shape (x : FVec Ideal S40x4x392x128 .bf16) (b : Fin 40) (g : Fin 4) (h : Fin 7) (s : Fin 56) (d : Fin 128) :
    (shapeCast S40x56x28x128 (transpose S40x56x4x7x128 [0, 3, 1, 2, 4] (shapeCast S40x4x7x56x128 x shapeCasts_S40x4x392x128_S40x4x7x56x128)
      transposes_S40x4x7x56x128_S40x56x4x7x128_0_3_1_2_4) shapeCasts_S40x56x4x7x128_S40x56x28x128 (ix4 b s (head g h) d) : EReal) = x (ix4 b g (at_ h s) d) := by
  rw [← Cert.ReferenceIdeal.Out.at_eq h s (by omega)]
  dsimp only [head]
  pointwise []

/-- A draft token's scale in its array. -/
theorem scale_shape (x : FVec Ideal S40x4x1x56 .f32) (b : Fin 40) (g : Fin 4) (j : Fin 56) :
    (shapeCast S40x4x56 x shapeCasts_S40x4x1x56_S40x4x56 (ix3 b g j) : EReal) = x (ix4 b g 0 j) := by
  pointwise []

variable (m : (ℓ : Loc nD τ sig) → Buf (Elt Ideal) ℓ)

/-- The kernel's queries. -/
theorem queries (c : Dev nD) (b : Fin 40) (g : Fin 4) (h : Fin 7) (s : Fin 56) (d : Fin 128) :
    (V m c main_v2 (ix4 b g (at_ h s) d) : EReal) = m (c.tc.loc main_arg0) (ix4 b s (head g h) d) := by
  have e : V m c main_v2 = shapeCast S40x4x392x128 (transpose S40x4x7x56x128 [0, 2, 3, 1, 4] (shapeCast S40x56x4x7x128 (m (c.tc.loc main_arg0))
      shapeCasts_S40x56x28x128_S40x56x4x7x128) transposes_S40x56x4x7x128_S40x4x7x56x128_0_2_3_1_4) shapeCasts_S40x4x7x56x128_S40x4x392x128 := by
    entry_read
    rfl
  exact (congrFun e _).trans (queries_shape (m (c.tc.loc main_arg0)) b g h s d)

/-- The scales of the cached keys. -/
theorem keyScales (c : Dev nD) (b : Fin 40) (g : Fin 4) (k : Fin 15) (j : Fin 256) :
    (V m c main_v5 (ix5 b g k 0 j) : EReal) = m (c.tc.loc main_arg4) (ix3 b g ⟨k.val * 4 + j.val / 64, by omega⟩) := by
  have e : V m c main_v5 = shapeCast S40x4x15x1x256 (shapeCast S40x4x3840 (broadcastInDim S40x4x60x64 ![0, 1, 2] bcast_S40x4x60_S40x4x60x64_0_1_2
      (m (c.tc.loc main_arg4))) shapeCasts_S40x4x60x64_S40x4x3840) shapeCasts_S40x4x3840_S40x4x15x1x256 := by
    entry_read
    rfl
  exact (congrFun e _).trans (scales_shape (m (c.tc.loc main_arg4)) b g k j)

/-- The scales of the cached values. -/
theorem valueScales (c : Dev nD) (b : Fin 40) (g : Fin 4) (k : Fin 15) (j : Fin 256) :
    (V m c main_v8 (ix5 b g k 0 j) : EReal) = m (c.tc.loc main_arg6) (ix3 b g ⟨k.val * 4 + j.val / 64, by omega⟩) := by
  have e : V m c main_v8 = shapeCast S40x4x15x1x256 (shapeCast S40x4x3840 (broadcastInDim S40x4x60x64 ![0, 1, 2] bcast_S40x4x60_S40x4x60x64_0_1_2
      (m (c.tc.loc main_arg6))) shapeCasts_S40x4x60x64_S40x4x3840) shapeCasts_S40x4x3840_S40x4x15x1x256 := by
    entry_read
    rfl
  exact (congrFun e _).trans (scales_shape (m (c.tc.loc main_arg6)) b g k j)

/-- The mask. -/
theorem mask (c : Dev nD) (h : Fin 7) (s : Fin 56) (j : Fin 56) :
    (V m c main_v12 (ix2 (at_ h s) j) : EReal) = FloatOps.uitofp (F := Ideal) .f32 (m (c.tc.loc main_arg8) (ix2 s j)) := by
  have e : V m c main_v12 = shapeCast S392x56 (broadcastInDim S7x56x1x56 ![0, 1, 2, 3] bcast_S1x56x1x56_S7x56x1x56_0_1_2_3
      (shapeCast S1x56x1x56 (uitofp (F := Ideal) .f32 (m (c.tc.loc main_arg8))) shapeCasts_S56x56_S1x56x1x56)) shapeCasts_S7x56x1x56_S392x56 := by
    entry_read
    rfl
  exact (congrFun e _).trans (mask_shape (m (c.tc.loc main_arg8)) h s j)

/-- Every query head is one of a group. -/
theorem out_ix (y : S40x56x28x128.Idx) : ∃ (b : Fin 40) (g : Fin 4) (h : Fin 7) (s : Fin 56) (d : Fin 128), y = ix4 b s (head g h) d := by
  have hy : (y 2).val < 28 := (y 2).isLt
  refine ⟨y 0, ⟨(y 2).val / 7, by omega⟩, ⟨(y 2).val % 7, by omega⟩, y 1, y 3, ?_⟩
  have e : head ⟨(y 2).val / 7, by omega⟩ ⟨(y 2).val % 7, by omega⟩ = y 2 := Fin.ext (by show 7 * ((y 2).val / 7) + (y 2).val % 7 = (y 2).val; omega)
  rw [e]
  blk_ext []

end Cert.KernelIdeal.Host

end
-- ==== Proof.Results.lean ====
/- What the kernel program ends with: its five results, over its arguments. -/
module

public import proofs.«01_k».proof.Proof.Host
public import Idealize.ShloMosaic.Lib.Claim

@[expose] public section

set_option maxRecDepth 16384

noncomputable section

namespace Cert.KernelIdeal.Results

open Idealize.ShloMosaic Idealize.ShloMosaic.TcCoe Idealize.SL.Sem Idealize.ShloMosaic.Pipeline Cert.KernelIdeal Cert.KernelIdeal.Gen

/-- The attention output of an output array. -/
def regroup (x : FVec Ideal S40x4x392x128 .bf16) : FVec Ideal S40x56x28x128 .bf16 :=
  shapeCast S40x56x28x128 (transpose S40x56x4x7x128 [0, 3, 1, 2, 4] (shapeCast S40x4x7x56x128 x shapeCasts_S40x4x392x128_S40x4x7x56x128)
    transposes_S40x4x7x56x128_S40x56x4x7x128_0_3_1_2_4) shapeCasts_S40x56x4x7x128_S40x56x28x128

/-- The scales of an array of scales. -/
def flat (x : FVec Ideal S40x4x1x56 .f32) : FVec Ideal S40x4x56 .f32 := shapeCast S40x4x56 x shapeCasts_S40x4x1x56_S40x4x56

/-- The host's last operations leave the output regrouped. -/
theorem tail16 (W : Valuation τ sig (Elt Ideal)) :
    StableHlo.after (List.flatten [hostOps1]) W (Proc.devRef .tc main_v16) = regroup (W (Proc.devRef .tc main_v13_0)) := by
  simp only [hostOps1, List.flatten_cons, List.flatten_nil, List.append_nil, List.cons_append, List.nil_append]
  after_results
  rfl

/-- They leave the keys' scales flat. -/
theorem tail17 (W : Valuation τ sig (Elt Ideal)) :
    StableHlo.after (List.flatten [hostOps1]) W (Proc.devRef .tc main_v17) = flat (W (Proc.devRef .tc main_v13_2)) := by
  simp only [hostOps1, List.flatten_cons, List.flatten_nil, List.append_nil, List.cons_append, List.nil_append]
  after_results
  rfl

/-- They leave the values' scales flat. -/
theorem tail18 (W : Valuation τ sig (Elt Ideal)) :
    StableHlo.after (List.flatten [hostOps1]) W (Proc.devRef .tc main_v18) = flat (W (Proc.devRef .tc main_v13_4)) := by
  simp only [hostOps1, List.flatten_cons, List.flatten_nil, List.append_nil, List.cons_append, List.nil_append]
  after_results
  rfl

/-- No two windows share an array. -/
theorem arr_inj : Function.Injective (arrRef spec0) := by decide

variable (m : (ℓ : Loc nD τ sig) → Buf (Elt Ideal) ℓ) (ρ : Dev nD → PrngReg)

/-- The run's five results. -/
theorem run (hO : Ok m) (hH : Hyps m hO) (hn : ∀ (c : Dev nD) (i : S40.Idx), (show BitVec 32 from m (c.tc.loc main_arg7) i).toInt ≤ 3840) :
    θ_run defs (onTc (τ := τ) (main (F := Ideal))) ⟨m, fun _ => 0, ρ⟩ (fun r => ∀ c : Dev nD,
      r.2.mem ((c.tc : Thread nD τ).loc main_v16) = regroup (Arrays.outputs m c)
      ∧ r.2.mem ((c.tc : Thread nD τ).loc main_v13_1) = Arrays.codesOf (m (c.tc.loc main_arg1))
      ∧ r.2.mem ((c.tc : Thread nD τ).loc main_v17) = flat (Arrays.scalesOf (m (c.tc.loc main_arg1)))
      ∧ r.2.mem ((c.tc : Thread nD τ).loc main_v13_3) = Arrays.codesOf (m (c.tc.loc main_arg2))
      ∧ r.2.mem ((c.tc : Thread nD τ).loc main_v18) = flat (Arrays.scalesOf (m (c.tc.loc main_arg2)))) := by
  refine (θ_run defs _ _).mono (fun r h c => ?_) (run_main m ρ hO hH)
  have a8 := (withArrays_arr spec0 arr_inj c (V0 m c) (fun w => (dats m hO hH 0 c).arrAt w (cfgM m hO).N) 8).trans (Arrays.outputs_eq m hO hH c (hn c))
  have a10 := (withArrays_arr spec0 arr_inj c (V0 m c) (fun w => (dats m hO hH 0 c).arrAt w (cfgM m hO).N) 10).trans (Arrays.keyScales m hO hH c)
  have a12 := (withArrays_arr spec0 arr_inj c (V0 m c) (fun w => (dats m hO hH 0 c).arrAt w (cfgM m hO).N) 12).trans (Arrays.valueScales m hO hH c)
  refine ⟨?_, ?_, ?_, ?_, ?_⟩
  · exact (((h c).2 main_v16 (by decide : main_v16 ∈ Pipeline.restRefs sig spec0)).trans (tail16 _)).trans (congrArg regroup a8)
  · exact ((h c).1 9).trans (Arrays.keys m hO hH c)
  · exact (((h c).2 main_v17 (by decide : main_v17 ∈ Pipeline.restRefs sig spec0)).trans (tail17 _)).trans (congrArg flat a10)
  · exact ((h c).1 11).trans (Arrays.values m hO hH c)
  · exact (((h c).2 main_v18 (by decide : main_v18 ∈ Pipeline.restRefs sig spec0)).trans (tail18 _)).trans (congrArg flat a12)

end Cert.KernelIdeal.Results

end
-- ==== Proof.Tame.lean ====
/- The precondition makes every row of the draft keys and values one on which both quantisers agree. -/
module

public import proofs.«01_k».proof.Defs
public import proofs.«01_k».proof.Proof.Quant
public import proofs.«01_k».proof.Proof.Gen.Pre_fits_and_finite

@[expose] public section

set_option maxRecDepth 16384

noncomputable section

namespace Cert.KernelIdeal.Tame

open Idealize.ShloMosaic Idealize.SL.Sem Cert.KernelIdeal Cert.KernelIdeal.Gen

/-- The greatest finite bfloat16 number. -/
theorem greatest : Ideal.ofBits .f32 0x7F7F0000#32 = (((2 : ℝ) ^ 127 * (255 / 128) : ℝ) : EReal) := by
  simp [Ideal.ofBits, Ideal.ieee, -EReal.coe_mul]; norm_num

/-- A number whose absolute value is at most the greatest finite one is real and below `2 ^ 128`. -/
theorem real_of_le (x : EReal) (h : FloatOps.cmpf (F := Ideal) (φ := .f32) .ole (FloatOps.absf (F := Ideal) (φ := .f32) x) (FloatOps.ofBits (F := Ideal) .f32 0x7F7F0000#32) = 1#1) :
    ∃ g : ℝ, x = g ∧ |g| ≤ (2 : ℝ) ^ (128 : ℤ) := by
  have hle : max x (-x) ≤ (((2 : ℝ) ^ 127 * (255 / 128) : ℝ) : EReal) := by
    rw [← greatest]
    by_contra hc
    have e : FloatOps.cmpf (F := Ideal) (φ := .f32) .ole (FloatOps.absf (F := Ideal) (φ := .f32) x) (FloatOps.ofBits (F := Ideal) .f32 0x7F7F0000#32) = 0#1 := by
      show Ideal.cmp .ole (max x (-x)) (Ideal.ofBits .f32 0x7F7F0000#32) = 0#1
      simp only [Ideal.cmp, hc]
      rfl
    rw [e] at h
    exact absurd h (by decide)
  have h1 := (le_max_left _ _).trans hle
  have h2 := (le_max_right _ _).trans hle
  induction x with
  | bot => exact absurd h2 (by rw [EReal.neg_bot]; exact not_le.2 (EReal.coe_lt_top _))
  | top => exact absurd h1 (not_le.2 (EReal.coe_lt_top _))
  | coe g =>
    refine ⟨g, rfl, abs_le.2 ⟨?_, ?_⟩⟩
    · have : -g ≤ (2 : ℝ) ^ 127 * (255 / 128) := by exact_mod_cast h2
      have e : ((2 : ℝ) ^ (128 : ℤ)) = 2 ^ 127 * 2 := by norm_num
      rw [e]
      have p : (0 : ℝ) < 2 ^ 127 := by positivity
      nlinarith
    · have : g ≤ (2 : ℝ) ^ 127 * (255 / 128) := by exact_mod_cast h1
      have e : ((2 : ℝ) ^ (128 : ℤ)) = 2 ^ 127 * 2 := by norm_num
      rw [e]
      have p : (0 : ℝ) < 2 ^ 127 := by positivity
      nlinarith

variable (m : (ℓ : Loc nD τ sig) → Buf (Elt Ideal) ℓ)

/-- Every row of the draft keys. -/
theorem keys (h : Cert.Pre_KernelIdeal_fits_and_finite m) (c : Dev nD) (b : Fin 40) (g : Fin 4) (j : Fin 56) :
    Quant.Tame fun d : Fin 128 => m (c.tc.loc main_arg1) (ix4 b g j d) :=
  Quant.tame _ fun d => real_of_le _ (congrFun (h c).2.1 (ix4 b g j d))

/-- Every row of the draft values. -/
theorem values (h : Cert.Pre_KernelIdeal_fits_and_finite m) (c : Dev nD) (b : Fin 40) (g : Fin 4) (j : Fin 56) :
    Quant.Tame fun d : Fin 128 => m (c.tc.loc main_arg2) (ix4 b g j d) :=
  Quant.tame _ fun d => real_of_le _ (congrFun (h c).2.2 (ix4 b g j d))

end Cert.KernelIdeal.Tame

end
-- ==== Proof.RefQuant.lean ====
/- What the reference's quantiser computes at one entry: the exponent, the scale and the code of a draft token,
   in the words in which the kernel's quantiser is described. -/
module

public import proofs.«01_k».proof.Proof.Quant
public import proofs.«01_k».proof.Proof.Gen.ReferenceIdeal.Read
public import Idealize.ShloMosaic.Lib.Pipeline.ValueKit

@[expose] public section

set_option maxRecDepth 16384

noncomputable section

namespace Cert.ReferenceIdeal.Quant

open Idealize.ShloMosaic Idealize.SL.Sem Idealize.ShloMosaic.Pipeline Cert.ReferenceIdeal Cert.ReferenceIdeal.Gen
open Cert.KernelIdeal.Quant (row expo scale code Tame)

/-- One number per token, read at each of the token's lanes. -/
theorem wide (w : FVec Ideal S40x4x56 .f32) (b : Fin 40) (g : Fin 4) (j : Fin 56) (d : Fin 128) :
    broadcastTo S40x4x56x128 (shapeCast S40x4x56x1 w shapeCasts_S40x4x56_S40x4x56x1) broadcasts_S40x4x56x1_S40x4x56x128 (ix4 b g j d) = w (ix3 b g j) := by
  pointwise []

/-- The greatest lane of a token. -/
theorem greatest (y : FVec Ideal S40x4x56x128 .f32) (b : Fin 40) (g : Fin 4) (j : Fin 56) :
    multiReduction .maximumf [3] S40x4x56 y 0xFF800000#32 reduces_S40x4x56x128_S40x4x56 (.inl rfl) rfl (ix3 b g j)
      = Finset.fold max (Ideal.ofBits FTy.f32 4286578688#32) (fun d => y (ix4 b g j d)) Finset.univ := by
  pointwise []

/-- The exponent that the quantiser takes from the greatest magnitude, entry by entry. -/
theorem exponents (w : FVec Ideal S40x4x56 .f32) (c₁ c₂ c₃ c₄ c₅ : Ideal .f32) (i : S40x4x56.Idx) :
    (select (cmpf .olt (mulf w (broadcast S40x4x56 c₁)) (broadcast S40x4x56 c₂)) (broadcast S40x4x56 c₅)
      (addf (floor (divf (log (mulf w (broadcast S40x4x56 c₁))) (broadcast S40x4x56 c₃))) (broadcast S40x4x56 c₄)) i : EReal)
      = if (w i * c₁ : EReal) < c₂ then (c₅ : EReal) else Ideal.liftRound Int.floor (Ideal.div (Ideal.log (w i * c₁ : EReal)) c₃) + (c₄ : EReal) := by
  pointwise []

/-- Powers of a base given by its logarithm, entry by entry. -/
theorem powers (e : FVec Ideal S40x4x56 .f32) (c : Ideal .f32) (i : S40x4x56.Idx) :
    (exp (mulf e (broadcast S40x4x56 c)) i : EReal) = Ideal.exp ((e i : EReal) * c) := by
  pointwise []

/-- A lane times such a power at the negated exponent, kept between two bounds, entry by entry. -/
theorem clamped (x : FVec Ideal S40x4x56x128 .f32) (e : FVec Ideal S40x4x56 .f32) (c₀ c₁ lo hi : Ideal .f32) (b : Fin 40) (g : Fin 4) (j : Fin 56) (d : Fin 128) :
    (minimumf (broadcast S40x4x56x128 hi) (maximumf (broadcast S40x4x56x128 lo) (mulf x (broadcastTo S40x4x56x128
      (shapeCast S40x4x56x1 (exp (mulf (subf (broadcast S40x4x56 c₀) e) (broadcast S40x4x56 c₁))) shapeCasts_S40x4x56_S40x4x56x1)
      broadcasts_S40x4x56x1_S40x4x56x128))) (ix4 b g j d) : EReal)
      = min (hi : EReal) (max (lo : EReal) ((x (ix4 b g j d) : EReal) * Ideal.exp (((c₀ : EReal) - e (ix3 b g j)) * c₁))) := by
  pointwise []

/-- The zero constant. -/
theorem zero_eq : Ideal.ofBits .f32 0#32 = 0 := by simp [Ideal.ofBits, Ideal.ieee, -EReal.coe_mul]
/-- The one constant. -/
theorem one_eq : Ideal.ofBits .f32 1065353216#32 = 1 := by simp [Ideal.ofBits, Ideal.ieee, -EReal.coe_mul]; norm_num

/-- The exponents of the draft keys. -/
theorem pay6 (x : FVec Ideal S40x4x56x128 .bf16) (b : Fin 40) (g : Fin 4) (j : Fin 56) :
    (k0_pay6 (F := Ideal) x (ix3 b g j) : EReal) = expo fun d => x (ix4 b g j d) := by
  unfold k0_pay6
  dsimp only
  refine (exponents _ _ _ _ _ _ _).trans ?_
  rw [greatest]
  unfold expo row
  rw [← zero_eq, ← one_eq]
  rfl

/-- The exponents of the draft values. -/
theorem pay10 (x : FVec Ideal S40x4x56x128 .bf16) (b : Fin 40) (g : Fin 4) (j : Fin 56) :
    (k0_pay10 (F := Ideal) x (ix3 b g j) : EReal) = expo fun d => x (ix4 b g j d) := by
  unfold k0_pay10
  dsimp only
  refine (exponents _ _ _ _ _ _ _).trans ?_
  rw [greatest]
  unfold expo row
  rw [← zero_eq, ← one_eq]
  rfl

/-- The scales of the draft keys. -/
theorem pay7 (x : FVec Ideal S40x4x56x128 .bf16) (b : Fin 40) (g : Fin 4) (j : Fin 56) (h : Tame fun d => x (ix4 b g j d)) :
    (k0_pay7 (F := Ideal) x (ix3 b g j) : EReal) = scale fun d => x (ix4 b g j d) := by
  rw [Cert.KernelIdeal.Quant.scale_eq _ h, ← pay6]
  exact powers (k0_pay6 (F := Ideal) x) _ _

/-- The scales of the draft values. -/
theorem pay11 (x : FVec Ideal S40x4x56x128 .bf16) (b : Fin 40) (g : Fin 4) (j : Fin 56) (h : Tame fun d => x (ix4 b g j d)) :
    (k0_pay11 (F := Ideal) x (ix3 b g j) : EReal) = scale fun d => x (ix4 b g j d) := by
  rw [Cert.KernelIdeal.Quant.scale_eq _ h, ← pay10]
  exact powers (k0_pay10 (F := Ideal) x) _ _

/-- The codes of the draft keys. -/
theorem pay8 (x : FVec Ideal S40x4x56x128 .bf16) (b : Fin 40) (g : Fin 4) (j : Fin 56) (d : Fin 128) (h : Tame fun d => x (ix4 b g j d)) :
    (k0_pay8 (F := Ideal) x (ix4 b g j d) : EReal) = code (fun d => x (ix4 b g j d)) d := by
  rw [Cert.KernelIdeal.Quant.code_eq _ h, ← pay6, ← zero_eq]
  exact clamped (k0_pay5 (F := Ideal) x) (k0_pay6 (F := Ideal) x) _ _ _ _ b g j d

/-- The codes of the draft values. -/
theorem pay12 (x : FVec Ideal S40x4x56x128 .bf16) (b : Fin 40) (g : Fin 4) (j : Fin 56) (d : Fin 128) (h : Tame fun d => x (ix4 b g j d)) :
    (k0_pay12 (F := Ideal) x (ix4 b g j d) : EReal) = code (fun d => x (ix4 b g j d)) d := by
  rw [Cert.KernelIdeal.Quant.code_eq _ h, ← pay10, ← zero_eq]
  exact clamped (k0_pay9 (F := Ideal) x) (k0_pay10 (F := Ideal) x) _ _ _ _ b g j d

end Cert.ReferenceIdeal.Quant

end
-- ==== Proof.RefArrays.lean ====
/- What the reference's kernel leaves in its arrays: the codes and scales of the draft tokens, and every coded array widened. -/
module

public import proofs.«01_k».proof.Proof.RefQuant
public import proofs.«01_k».proof.Proof.Gen.ReferenceIdeal.Run

@[expose] public section

set_option maxRecDepth 16384

noncomputable section

namespace Cert.ReferenceIdeal.Arrays

open Idealize.ShloMosaic Idealize.ShloMosaic.TcCoe Idealize.SL.Sem Idealize.ShloMosaic.Pipeline Cert.ReferenceIdeal Cert.ReferenceIdeal.Gen
open Cert.KernelIdeal.Quant (scale code Tame)

variable (m : (ℓ : Loc nD τ sig) → Buf (Elt Ideal) ℓ) (c : Dev nD)

/-- Input 0's one block starts at the origin. -/
theorem idx0 : win0_0.index t0_0 = ![0, 0, 0, 0] := by decide +kernel

/-- Input 0's one block is its array. -/
theorem blk0 : iblk m c 0 t0_0 = m (c.tc.loc main_arg1) := by
  funext y
  blk_ext [iblk, V, idx0]

/-- Input 1's one block starts at the origin. -/
theorem idx1 : win0_1.index t0_0 = ![0, 0, 0, 0] := by decide +kernel

/-- Input 1's one block is its array. -/
theorem blk1 : iblk m c 1 t0_0 = m (c.tc.loc main_arg2) := by
  funext y
  blk_ext [iblk, V, idx1]

/-- Input 2's one block starts at the origin. -/
theorem idx2 : win0_2.index t0_0 = ![0, 0, 0, 0] := by decide +kernel

/-- Input 2's one block is its array. -/
theorem blk2 : iblk m c 2 t0_0 = m (c.tc.loc main_arg3) := by
  funext y
  blk_ext [iblk, V, idx2]

/-- Input 3's one block starts at the origin. -/
theorem idx3 : win0_3.index t0_0 = ![0, 0, 0, 0] := by decide +kernel

/-- Input 3's one block is its array. -/
theorem blk3 : iblk m c 3 t0_0 = m (c.tc.loc main_arg5) := by
  funext y
  blk_ext [iblk, V, idx3]

/-- What is stored in output 4 depends on the input's contents alone. -/
theorem stored4 (w : Memref sig .tc .vmem S40x4x56x128 .bf16) (h : w.IsWhole) (x : Vec Ideal S40x4x56x128 .bf16) :
    k0_pay8 (F := Ideal) (View.read (Elt Ideal) w.view (h.unread x)) = k0_pay8 (F := Ideal) x := by
  rw [Memref.IsWhole.read_unread]

/-- The draft keys' codes. -/
theorem region0 : Value.reg_main_v0_0 m c = k0_pay8 (F := Ideal) (m (c.tc.loc main_arg1)) := by
  refine (dats m 0 c).arrAt_eq_of_after_last 4 t0_0 (by decide +kernel) _ fun j => ?_
  blk_simp
  rw [after0_4]
  unfold outsAt0
  dsimp only
  frame_out
  exact congrFun ((stored4 _ _ (iblk m c 0 t0_0)).trans (congrArg (fun x => k0_pay8 (F := Ideal) x) (blk0 m c))) j

/-- What is stored in output 5 depends on the input's contents alone. -/
theorem stored5 (w : Memref sig .tc .vmem S40x4x56x128 .bf16) (h : w.IsWhole) (x : Vec Ideal S40x4x56x128 .bf16) :
    k0_pay7 (F := Ideal) (View.read (Elt Ideal) w.view (h.unread x)) = k0_pay7 (F := Ideal) x := by
  rw [Memref.IsWhole.read_unread]

/-- The draft keys' scales. -/
theorem region1 : Value.reg_main_v0_1 m c = k0_pay7 (F := Ideal) (m (c.tc.loc main_arg1)) := by
  refine (dats m 0 c).arrAt_eq_of_after_last 5 t0_0 (by decide +kernel) _ fun j => ?_
  blk_simp
  rw [after0_5]
  frame_out
  exact congrFun ((stored5 _ _ (iblk m c 0 t0_0)).trans (congrArg (fun x => k0_pay7 (F := Ideal) x) (blk0 m c))) j

/-- What is stored in output 6 depends on the input's contents alone. -/
theorem stored6 (w : Memref sig .tc .vmem S40x4x56x128 .bf16) (h : w.IsWhole) (x : Vec Ideal S40x4x56x128 .bf16) :
    k0_pay12 (F := Ideal) (View.read (Elt Ideal) w.view (h.unread x)) = k0_pay12 (F := Ideal) x := by
  rw [Memref.IsWhole.read_unread]

/-- The draft values' codes. -/
theorem region2 : Value.reg_main_v0_2 m c = k0_pay12 (F := Ideal) (m (c.tc.loc main_arg2)) := by
  refine (dats m 0 c).arrAt_eq_of_after_last 6 t0_0 (by decide +kernel) _ fun j => ?_
  blk_simp
  rw [after0_6]
  frame_out
  exact congrFun ((stored6 _ _ (iblk m c 1 t0_0)).trans (congrArg (fun x => k0_pay12 (F := Ideal) x) (blk1 m c))) j

/-- What is stored in output 7 depends on the input's contents alone. -/
theorem stored7 (w : Memref sig .tc .vmem S40x4x56x128 .bf16) (h : w.IsWhole) (x : Vec Ideal S40x4x56x128 .bf16) :
    k0_pay11 (F := Ideal) (View.read (Elt Ideal) w.view (h.unread x)) = k0_pay11 (F := Ideal) x := by
  rw [Memref.IsWhole.read_unread]

/-- The draft values' scales. -/
theorem region3 : Value.reg_main_v0_3 m c = k0_pay11 (F := Ideal) (m (c.tc.loc main_arg2)) := by
  refine (dats m 0 c).arrAt_eq_of_after_last 7 t0_0 (by decide +kernel) _ fun j => ?_
  blk_simp
  rw [after0_7]
  frame_out
  exact congrFun ((stored7 _ _ (iblk m c 1 t0_0)).trans (congrArg (fun x => k0_pay11 (F := Ideal) x) (blk1 m c))) j

/-- What is stored in output 8 depends on the input's contents alone. -/
theorem stored8 (w : Memref sig .tc .vmem S40x4x56x128 .bf16) (h : w.IsWhole) (x : Vec Ideal S40x4x56x128 .bf16) :
    k0_pay1 (F := Ideal) (k0_pay8 (F := Ideal) (View.read (Elt Ideal) w.view (h.unread x))) = k0_pay1 (F := Ideal) (k0_pay8 (F := Ideal) x) := by
  rw [Memref.IsWhole.read_unread]

/-- The draft keys' codes, widened. -/
theorem region4 : Value.reg_main_v0_4 m c = k0_pay1 (F := Ideal) (k0_pay8 (F := Ideal) (m (c.tc.loc main_arg1))) := by
  refine (dats m 0 c).arrAt_eq_of_after_last 8 t0_0 (by decide +kernel) _ fun j => ?_
  blk_simp
  rw [after0_8]
  frame_out
  exact congrFun ((stored8 _ _ (iblk m c 0 t0_0)).trans (congrArg (fun x => k0_pay1 (F := Ideal) (k0_pay8 (F := Ideal) x)) (blk0 m c))) j

/-- What is stored in output 9 depends on the input's contents alone. -/
theorem stored9 (w : Memref sig .tc .vmem S40x4x56x128 .bf16) (h : w.IsWhole) (x : Vec Ideal S40x4x56x128 .bf16) :
    k0_pay2 (F := Ideal) (k0_pay12 (F := Ideal) (View.read (Elt Ideal) w.view (h.unread x))) = k0_pay2 (F := Ideal) (k0_pay12 (F := Ideal) x) := by
  rw [Memref.IsWhole.read_unread]

/-- The draft values' codes, widened. -/
theorem region5 : Value.reg_main_v0_5 m c = k0_pay2 (F := Ideal) (k0_pay12 (F := Ideal) (m (c.tc.loc main_arg2))) := by
  refine (dats m 0 c).arrAt_eq_of_after_last 9 t0_0 (by decide +kernel) _ fun j => ?_
  blk_simp
  rw [after0_9]
  frame_out
  exact congrFun ((stored9 _ _ (iblk m c 1 t0_0)).trans (congrArg (fun x => k0_pay2 (F := Ideal) (k0_pay12 (F := Ideal) x)) (blk1 m c))) j

/-- What is stored in output 10 depends on the input's contents alone. -/
theorem stored10 (w : Memref sig .tc .vmem S40x4x3840x128 .fp8e4m3) (h : w.IsWhole) (x : Vec Ideal S40x4x3840x128 .fp8e4m3) :
    k0_pay3 (F := Ideal) (View.read (Elt Ideal) w.view (h.unread x)) = k0_pay3 (F := Ideal) x := by
  rw [Memref.IsWhole.read_unread]

/-- The cached keys, widened. -/
theorem region6 : Value.reg_main_v0_6 m c = k0_pay3 (F := Ideal) (m (c.tc.loc main_arg3)) := by
  refine (dats m 0 c).arrAt_eq_of_after_last 10 t0_0 (by decide +kernel) _ fun j => ?_
  blk_simp
  rw [after0_10]
  frame_out
  exact congrFun ((stored10 _ _ (iblk m c 2 t0_0)).trans (congrArg (fun x => k0_pay3 (F := Ideal) x) (blk2 m c))) j

/-- What is stored in output 11 depends on the input's contents alone. -/
theorem stored11 (w : Memref sig .tc .vmem S40x4x3840x128 .fp8e4m3) (h : w.IsWhole) (x : Vec Ideal S40x4x3840x128 .fp8e4m3) :
    k0_pay4 (F := Ideal) (View.read (Elt Ideal) w.view (h.unread x)) = k0_pay4 (F := Ideal) x := by
  rw [Memref.IsWhole.read_unread]

/-- The cached values, widened. -/
theorem region7 : Value.reg_main_v0_7 m c = k0_pay4 (F := Ideal) (m (c.tc.loc main_arg5)) := by
  refine (dats m 0 c).arrAt_eq_of_after_last 11 t0_0 (by decide +kernel) _ fun j => ?_
  blk_simp
  rw [after0_11]
  frame_out
  exact congrFun ((stored11 _ _ (iblk m c 3 t0_0)).trans (congrArg (fun x => k0_pay4 (F := Ideal) x) (blk3 m c))) j

/-- A draft key's code. -/
theorem code0 (b : Fin 40) (g : Fin 4) (j : Fin 56) (d : Fin 128) (h : Tame fun d => m (c.tc.loc main_arg1) (ix4 b g j d)) :
    (Value.reg_main_v0_0 m c (ix4 b g j d) : EReal) = code (fun d => m (c.tc.loc main_arg1) (ix4 b g j d)) d := by
  rw [region0]
  exact Quant.pay8 _ b g j d h

/-- A draft value's code. -/
theorem code2 (b : Fin 40) (g : Fin 4) (j : Fin 56) (d : Fin 128) (h : Tame fun d => m (c.tc.loc main_arg2) (ix4 b g j d)) :
    (Value.reg_main_v0_2 m c (ix4 b g j d) : EReal) = code (fun d => m (c.tc.loc main_arg2) (ix4 b g j d)) d := by
  rw [region2]
  exact Quant.pay12 _ b g j d h

/-- The same, widened. -/
theorem code4 (b : Fin 40) (g : Fin 4) (j : Fin 56) (d : Fin 128) (h : Tame fun d => m (c.tc.loc main_arg1) (ix4 b g j d)) :
    (Value.reg_main_v0_4 m c (ix4 b g j d) : EReal) = code (fun d => m (c.tc.loc main_arg1) (ix4 b g j d)) d := by
  rw [region4]
  refine Eq.trans ?_ (Quant.pay8 (m (c.tc.loc main_arg1)) b g j d h)
  generalize k0_pay8 (F := Ideal) (m (c.tc.loc main_arg1)) = x
  pointwise [k0_pay1]

/-- The same, widened. -/
theorem code5 (b : Fin 40) (g : Fin 4) (j : Fin 56) (d : Fin 128) (h : Tame fun d => m (c.tc.loc main_arg2) (ix4 b g j d)) :
    (Value.reg_main_v0_5 m c (ix4 b g j d) : EReal) = code (fun d => m (c.tc.loc main_arg2) (ix4 b g j d)) d := by
  rw [region5]
  refine Eq.trans ?_ (Quant.pay12 (m (c.tc.loc main_arg2)) b g j d h)
  generalize k0_pay12 (F := Ideal) (m (c.tc.loc main_arg2)) = x
  pointwise [k0_pay2]

/-- A draft key's scale. -/
theorem scale1 (b : Fin 40) (g : Fin 4) (j : Fin 56) (h : Tame fun d => m (c.tc.loc main_arg1) (ix4 b g j d)) :
    (Value.reg_main_v0_1 m c (ix3 b g j) : EReal) = scale fun d => m (c.tc.loc main_arg1) (ix4 b g j d) := by
  rw [region1]
  exact Quant.pay7 _ b g j h

/-- A draft value's scale. -/
theorem scale3 (b : Fin 40) (g : Fin 4) (j : Fin 56) (h : Tame fun d => m (c.tc.loc main_arg2) (ix4 b g j d)) :
    (Value.reg_main_v0_3 m c (ix3 b g j) : EReal) = scale fun d => m (c.tc.loc main_arg2) (ix4 b g j d) := by
  rw [region3]
  exact Quant.pay11 _ b g j h

/-- A cached code, widened. -/
theorem cache6 (i : S40x4x3840x128.Idx) : (Value.reg_main_v0_6 m c i : EReal) = m (c.tc.loc main_arg3) i := by
  rw [region6]
  generalize m (c.tc.loc main_arg3) = x
  rfl

/-- A cached code, widened. -/
theorem cache7 (i : S40x4x3840x128.Idx) : (Value.reg_main_v0_7 m c i : EReal) = m (c.tc.loc main_arg5) i := by
  rw [region7]
  generalize m (c.tc.loc main_arg5) = x
  rfl

end Cert.ReferenceIdeal.Arrays

end
-- ==== Proof.Agree.lean ====
/- The kernel's five results are the reference's, from memories agreeing on the arguments. -/
module

public import proofs.«01_k».proof.Proof.Compare
public import proofs.«01_k».proof.Proof.Results
public import proofs.«01_k».proof.Proof.Tame
public import proofs.«01_k».proof.Proof.RefArrays

@[expose] public section

set_option maxRecDepth 16384

noncomputable section

namespace Cert.Agree

open Idealize.ShloMosaic Idealize.SL.Sem
open Cert.KernelIdeal.Results (regroup flat)
open Cert.ReferenceIdeal.Value (exitV reg_main_v0_0 reg_main_v0_1 reg_main_v0_2 reg_main_v0_3 reg_main_v0_4 reg_main_v0_5 reg_main_v0_6 reg_main_v0_7)

/-- The reference's attention output over its arguments and its quantised arrays. -/
theorem exits (m' : (ℓ : Loc Cert.ReferenceIdeal.nD Cert.ReferenceIdeal.τ Cert.ReferenceIdeal.sig) → Buf (Elt Ideal) ℓ) (c : Dev Cert.ReferenceIdeal.nD) :
    Cert.ReferenceIdeal.Read.val_main_v69 (F := Ideal) (exitV m' c (Proc.devRef .tc Cert.ReferenceIdeal.main_arg0)) (exitV m' c (Proc.devRef .tc Cert.ReferenceIdeal.main_arg4))
        (exitV m' c (Proc.devRef .tc Cert.ReferenceIdeal.main_arg6)) (exitV m' c (Proc.devRef .tc Cert.ReferenceIdeal.main_arg7)) (exitV m' c (Proc.devRef .tc Cert.ReferenceIdeal.main_arg8))
        (exitV m' c (Proc.devRef .tc Cert.ReferenceIdeal.main_v0_1)) (exitV m' c (Proc.devRef .tc Cert.ReferenceIdeal.main_v0_3)) (exitV m' c (Proc.devRef .tc Cert.ReferenceIdeal.main_v0_4))
        (exitV m' c (Proc.devRef .tc Cert.ReferenceIdeal.main_v0_5)) (exitV m' c (Proc.devRef .tc Cert.ReferenceIdeal.main_v0_6)) (exitV m' c (Proc.devRef .tc Cert.ReferenceIdeal.main_v0_7))
      = Cert.ReferenceIdeal.Read.val_main_v69 (F := Ideal) (m' (c.tc.loc Cert.ReferenceIdeal.main_arg0)) (m' (c.tc.loc Cert.ReferenceIdeal.main_arg4))
        (m' (c.tc.loc Cert.ReferenceIdeal.main_arg6)) (m' (c.tc.loc Cert.ReferenceIdeal.main_arg7)) (m' (c.tc.loc Cert.ReferenceIdeal.main_arg8))
        (reg_main_v0_1 m' c) (reg_main_v0_3 m' c) (reg_main_v0_4 m' c) (reg_main_v0_5 m' c) (reg_main_v0_6 m' c) (reg_main_v0_7 m' c) := by
  rw [Cert.ReferenceIdeal.Value.exit_main_arg0, Cert.ReferenceIdeal.Value.exit_main_arg4, Cert.ReferenceIdeal.Value.exit_main_arg6,
    Cert.ReferenceIdeal.Value.exit_main_arg7, Cert.ReferenceIdeal.Value.exit_main_arg8, Cert.ReferenceIdeal.Value.exit_main_v0_1,
    Cert.ReferenceIdeal.Value.exit_main_v0_3, Cert.ReferenceIdeal.Value.exit_main_v0_4, Cert.ReferenceIdeal.Value.exit_main_v0_5,
    Cert.ReferenceIdeal.Value.exit_main_v0_6, Cert.ReferenceIdeal.Value.exit_main_v0_7]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (h : Cert.Pre_KernelIdeal_fits_and_finite m) (c : Dev 1)

include h

section
variable (a1 : m' (c.tc.loc Cert.ReferenceIdeal.main_arg1) = m (c.tc.loc Cert.KernelIdeal.main_arg1))
include a1

/-- Every row of the reference's draft keys is tame. -/
theorem tame1 (b : Fin 40) (g : Fin 4) (j : Fin 56) : Cert.KernelIdeal.Quant.Tame fun d : Fin 128 => m' (c.tc.loc Cert.ReferenceIdeal.main_arg1) (ix4 b g j d) := by
  rw [a1]; exact Cert.KernelIdeal.Tame.keys m h c b g j

/-- A key's code. -/
theorem code0 (b : Fin 40) (g : Fin 4) (j : Fin 56) (d : Fin 128) :
    (reg_main_v0_0 m' c (ix4 b g j d) : EReal) = Cert.KernelIdeal.Quant.code (fun d => m (c.tc.loc Cert.KernelIdeal.main_arg1) (ix4 b g j d)) d := by
  refine (Cert.ReferenceIdeal.Arrays.code0 m' c b g j d (tame1 m m' h c a1 b g j)).trans ?_
  rw [a1]

/-- A key's widened code. -/
theorem code4 (b : Fin 40) (g : Fin 4) (j : Fin 56) (d : Fin 128) :
    (reg_main_v0_4 m' c (ix4 b g j d) : EReal) = Cert.KernelIdeal.Quant.code (fun d => m (c.tc.loc Cert.KernelIdeal.main_arg1) (ix4 b g j d)) d := by
  refine (Cert.ReferenceIdeal.Arrays.code4 m' c b g j d (tame1 m m' h c a1 b g j)).trans ?_
  rw [a1]

/-- A key's scale. -/
theorem scale1 (b : Fin 40) (g : Fin 4) (j : Fin 56) :
    (reg_main_v0_1 m' c (ix3 b g j) : EReal) = Cert.KernelIdeal.Quant.scale fun d => m (c.tc.loc Cert.KernelIdeal.main_arg1) (ix4 b g j d) := by
  refine (Cert.ReferenceIdeal.Arrays.scale1 m' c b g j (tame1 m m' h c a1 b g j)).trans ?_
  rw [a1]

/-- The keys' codes. -/
theorem keys : reg_main_v0_0 m' c = Cert.KernelIdeal.Arrays.codesOf (m (c.tc.loc Cert.KernelIdeal.main_arg1)) := by
  funext (y : Cert.KernelIdeal.S40x4x56x128.Idx)
  have e : y = ix4 (y 0) (y 1) (y 2) (y 3) := by blk_ext []
  rw [e]
  exact code0 m m' h c a1 (y 0) (y 1) (y 2) (y 3)

/-- The keys' scales. -/
theorem keyScales : reg_main_v0_1 m' c = flat (Cert.KernelIdeal.Arrays.scalesOf (m (c.tc.loc Cert.KernelIdeal.main_arg1))) := by
  funext (y : Cert.KernelIdeal.S40x4x56.Idx)
  have e : y = ix3 (y 0) (y 1) (y 2) := by blk_ext []
  rw [e]
  refine (scale1 m m' h c a1 (y 0) (y 1) (y 2)).trans ?_
  exact (Cert.KernelIdeal.Host.scale_shape (Cert.KernelIdeal.Arrays.scalesOf (m (c.tc.loc Cert.KernelIdeal.main_arg1))) (y 0) (y 1) (y 2)).symm

end

section
variable (a2 : m' (c.tc.loc Cert.ReferenceIdeal.main_arg2) = m (c.tc.loc Cert.KernelIdeal.main_arg2))
include a2

/-- Every row of the reference's draft values is tame. -/
theorem tame2 (b : Fin 40) (g : Fin 4) (j : Fin 56) : Cert.KernelIdeal.Quant.Tame fun d : Fin 128 => m' (c.tc.loc Cert.ReferenceIdeal.main_arg2) (ix4 b g j d) := by
  rw [a2]; exact Cert.KernelIdeal.Tame.values m h c b g j

/-- A value's code. -/
theorem code2 (b : Fin 40) (g : Fin 4) (j : Fin 56) (d : Fin 128) :
    (reg_main_v0_2 m' c (ix4 b g j d) : EReal) = Cert.KernelIdeal.Quant.code (fun d => m (c.tc.loc Cert.KernelIdeal.main_arg2) (ix4 b g j d)) d := by
  refine (Cert.ReferenceIdeal.Arrays.code2 m' c b g j d (tame2 m m' h c a2 b g j)).trans ?_
  rw [a2]

/-- A value's widened code. -/
theorem code5 (b : Fin 40) (g : Fin 4) (j : Fin 56) (d : Fin 128) :
    (reg_main_v0_5 m' c (ix4 b g j d) : EReal) = Cert.KernelIdeal.Quant.code (fun d => m (c.tc.loc Cert.KernelIdeal.main_arg2) (ix4 b g j d)) d := by
  refine (Cert.ReferenceIdeal.Arrays.code5 m' c b g j d (tame2 m m' h c a2 b g j)).trans ?_
  rw [a2]

/-- A value's scale. -/
theorem scale3 (b : Fin 40) (g : Fin 4) (j : Fin 56) :
    (reg_main_v0_3 m' c (ix3 b g j) : EReal) = Cert.KernelIdeal.Quant.scale fun d => m (c.tc.loc Cert.KernelIdeal.main_arg2) (ix4 b g j d) := by
  refine (Cert.ReferenceIdeal.Arrays.scale3 m' c b g j (tame2 m m' h c a2 b g j)).trans ?_
  rw [a2]

/-- The values' codes. -/
theorem values : reg_main_v0_2 m' c = Cert.KernelIdeal.Arrays.codesOf (m (c.tc.loc Cert.KernelIdeal.main_arg2)) := by
  funext (y : Cert.KernelIdeal.S40x4x56x128.Idx)
  have e : y = ix4 (y 0) (y 1) (y 2) (y 3) := by blk_ext []
  rw [e]
  exact code2 m m' h c a2 (y 0) (y 1) (y 2) (y 3)

/-- The values' scales. -/
theorem valueScales : reg_main_v0_3 m' c = flat (Cert.KernelIdeal.Arrays.scalesOf (m (c.tc.loc Cert.KernelIdeal.main_arg2))) := by
  funext (y : Cert.KernelIdeal.S40x4x56.Idx)
  have e : y = ix3 (y 0) (y 1) (y 2) := by blk_ext []
  rw [e]
  refine (scale3 m m' h c a2 (y 0) (y 1) (y 2)).trans ?_
  exact (Cert.KernelIdeal.Host.scale_shape (Cert.KernelIdeal.Arrays.scalesOf (m (c.tc.loc Cert.KernelIdeal.main_arg2))) (y 0) (y 1) (y 2)).symm

end

/-- The attention output. -/
theorem out (a0 : m' (c.tc.loc Cert.ReferenceIdeal.main_arg0) = m (c.tc.loc Cert.KernelIdeal.main_arg0))
    (a1 : m' (c.tc.loc Cert.ReferenceIdeal.main_arg1) = m (c.tc.loc Cert.KernelIdeal.main_arg1))
    (a2 : m' (c.tc.loc Cert.ReferenceIdeal.main_arg2) = m (c.tc.loc Cert.KernelIdeal.main_arg2))
    (a3 : m' (c.tc.loc Cert.ReferenceIdeal.main_arg3) = m (c.tc.loc Cert.KernelIdeal.main_arg3))
    (a4 : m' (c.tc.loc Cert.ReferenceIdeal.main_arg4) = m (c.tc.loc Cert.KernelIdeal.main_arg4))
    (a5 : m' (c.tc.loc Cert.ReferenceIdeal.main_arg5) = m (c.tc.loc Cert.KernelIdeal.main_arg5))
    (a6 : m' (c.tc.loc Cert.ReferenceIdeal.main_arg6) = m (c.tc.loc Cert.KernelIdeal.main_arg6))
    (a7 : m' (c.tc.loc Cert.ReferenceIdeal.main_arg7) = m (c.tc.loc Cert.KernelIdeal.main_arg7))
    (a8 : m' (c.tc.loc Cert.ReferenceIdeal.main_arg8) = m (c.tc.loc Cert.KernelIdeal.main_arg8)) :
    Cert.ReferenceIdeal.Read.val_main_v69 (F := Ideal) (m' (c.tc.loc Cert.ReferenceIdeal.main_arg0)) (m' (c.tc.loc Cert.ReferenceIdeal.main_arg4))
        (m' (c.tc.loc Cert.ReferenceIdeal.main_arg6)) (m' (c.tc.loc Cert.ReferenceIdeal.main_arg7)) (m' (c.tc.loc Cert.ReferenceIdeal.main_arg8))
        (reg_main_v0_1 m' c) (reg_main_v0_3 m' c) (reg_main_v0_4 m' c) (reg_main_v0_5 m' c) (reg_main_v0_6 m' c) (reg_main_v0_7 m' c)
      = regroup (Cert.KernelIdeal.Arrays.outputs m c) := by
  rw [a0, a4, a6, a7, a8]
  funext (y : Cert.KernelIdeal.S40x56x28x128.Idx)
  obtain ⟨b, g, k, s, d, rfl⟩ := Cert.KernelIdeal.Host.out_ix y
  refine Eq.trans ?_ (Cert.KernelIdeal.Host.out_shape (Cert.KernelIdeal.Arrays.outputs m c) b g k s d).symm
  refine (Cert.Compare.entry (Cert.KernelIdeal.Gen.V m c Cert.KernelIdeal.main_v2) (m (c.tc.loc Cert.KernelIdeal.main_arg1)) (m (c.tc.loc Cert.KernelIdeal.main_arg2))
    (m (c.tc.loc Cert.KernelIdeal.main_arg3)) (m (c.tc.loc Cert.KernelIdeal.main_arg5)) (Cert.KernelIdeal.Gen.V m c Cert.KernelIdeal.main_v5)
    (Cert.KernelIdeal.Gen.V m c Cert.KernelIdeal.main_v8) (m (c.tc.loc Cert.KernelIdeal.main_arg7)) (Cert.KernelIdeal.Gen.V m c Cert.KernelIdeal.main_v12)
    (m (c.tc.loc Cert.KernelIdeal.main_arg0)) (m (c.tc.loc Cert.KernelIdeal.main_arg4)) (m (c.tc.loc Cert.KernelIdeal.main_arg6)) (m (c.tc.loc Cert.KernelIdeal.main_arg8))
    (reg_main_v0_1 m' c) (reg_main_v0_3 m' c) (reg_main_v0_4 m' c) (reg_main_v0_5 m' c) (reg_main_v0_6 m' c) (reg_main_v0_7 m' c) b g k s d
    (fun d => Cert.KernelIdeal.Host.queries m c b g k s d) (fun j d => code4 m m' h c a1 b g j d) (fun j => scale1 m m' h c a1 b g j)
    (fun j d => code5 m m' h c a2 b g j d) (fun j => scale3 m m' h c a2 b g j)
    (fun i => (Cert.ReferenceIdeal.Arrays.cache6 m' c i).trans (congrFun a3 i)) (fun i => (Cert.ReferenceIdeal.Arrays.cache7 m' c i).trans (congrFun a5 i))
    (fun i j => Cert.KernelIdeal.Host.keyScales m c b g i j) (fun i j => Cert.KernelIdeal.Host.valueScales m c b g i j)
    (fun j => Cert.KernelIdeal.Host.mask m c k s j)).symm

end Cert.Agree

end
-- ==== Proof.lean ====
module

public import proofs.«01_k».proof.Defs
public import proofs.«01_k».proof.Proof.Lengths
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.Pre_cache_fits
public import proofs.«01_k».proof.Proof.Gen.Pre_fits_and_finite
public import proofs.«01_k».proof.Proof.Gen.ReferenceIdeal.Read
public import proofs.«01_k».proof.Proof.Gen.Reference
public import proofs.«01_k».proof.Proof.Gen.Reference.Frame
public import proofs.«01_k».proof.Proof.Agree
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The idealization rewrote the kernel at its two named constants only. -/
theorem preserves : Cert.preserves_Kernel_KernelIdeal :=
  ⟨IdealRules.named_const.statement Cert.KernelIdeal.κ "log2e_scale" .f32 0x3E0293EE#32 (((Real.sqrt 128)⁻¹ * (Real.log 2)⁻¹ : ℝ) : EReal) rfl,
    IdealRules.named_const.statement Cert.KernelIdeal.κ "neg_inf" .f32 0xF149F2CA#32 ⊥ rfl⟩

/-- From arguments that fit, the kernel and the reference end with the same five results. -/
theorem algebraic : Cert.algebraic_KernelIdeal_ReferenceIdeal_pre_fits_and_finite := by
  intro m g m' g' hpre hagree
  refine ⟨fun c => Cert.KernelIdeal.Results.regroup (Cert.KernelIdeal.Arrays.outputs m c),
    fun c => Cert.KernelIdeal.Arrays.codesOf (m (c.tc.loc Cert.KernelIdeal.main_arg1)),
    fun c => Cert.KernelIdeal.Results.flat (Cert.KernelIdeal.Arrays.scalesOf (m (c.tc.loc Cert.KernelIdeal.main_arg1))),
    fun c => Cert.KernelIdeal.Arrays.codesOf (m (c.tc.loc Cert.KernelIdeal.main_arg2)),
    fun c => Cert.KernelIdeal.Results.flat (Cert.KernelIdeal.Arrays.scalesOf (m (c.tc.loc Cert.KernelIdeal.main_arg2))), ?_, ?_⟩
  · have hH := Cert.KernelIdeal.Lengths.hyps_of_fits m (Cert.KernelIdeal.Lengths.fits' m hpre 0) trivial
    refine (θ_run _ _ _).mono (fun r hr c => ?_)
      (θ_run_and (Cert.KernelIdeal.Results.run m g trivial hH (Cert.KernelIdeal.Lengths.fits' m hpre)) (Cert.KernelIdeal.Gen.unchanged m g trivial hH))
    obtain ⟨r0, r1, r2, r3, r4⟩ := hr.1 c
    exact ⟨r0, r1, r2, r3, r4, hr.2 c⟩
  · refine (θ_run _ _ _).mono (fun r hr c => ?_) (Cert.ReferenceIdeal.Value.run m' g')
    obtain ⟨a0, a1, a2, a3, a4, a5, a6, a7, a8⟩ := hagree c
    obtain ⟨r0, r1, r2, r3, r4, rest⟩ := hr c
    exact ⟨r0.trans ((Cert.ReferenceIdeal.Read.val_main_v69_eq _).trans ((Cert.Agree.exits m' c).trans
        (Cert.Agree.out m m' hpre c a0 a1 a2 a3 a4 a5 a6 a7 a8))),
      r1.trans (Cert.Agree.keys m m' hpre c a1), r2.trans (Cert.Agree.keyScales m m' hpre c a1),
      r3.trans (Cert.Agree.values m m' hpre c a2), r4.trans (Cert.Agree.valueScales m m' hpre c a2), rest⟩

/-- Everything the certificate claims. -/
theorem claim : Cert.Claim := ⟨Cert.Kernel.Gen.facts, Cert.KernelIdeal.Gen.facts, Cert.ReferenceIdeal.Gen.facts, Cert.Reference.Gen.facts,
  Cert.Pre_cache_fits.Gen.facts, Cert.Pre_fits_and_finite.Gen.facts,
  fun m ρ h => Cert.Kernel.Gen.frame m ρ trivial (Cert.Kernel.Lengths.hyps_of_pre m h trivial),
  fun m ρ h => Cert.KernelIdeal.Gen.frame m ρ trivial (Cert.KernelIdeal.Lengths.hyps_of_fits m (Cert.KernelIdeal.Lengths.fits m h 0) trivial),
  fun m ρ h => Cert.KernelIdeal.Gen.frame m ρ trivial (Cert.KernelIdeal.Lengths.hyps_of_fits m (Cert.KernelIdeal.Lengths.fits' m h 0) trivial),
  fun m ρ _ => Cert.ReferenceIdeal.Gen.frame m ρ,
  fun m ρ _ => Cert.ReferenceIdeal.Gen.frame m ρ,
  fun m ρ _ => Cert.Reference.Gen.frame m ρ,
  preserves, trivial, algebraic⟩

end Cert.Proof

end
